-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fits [hPre_fits : Cert.Pre_fits.Facts] (m : (ℓ : Loc Cert.KernelIdeal.nD Cert.KernelIdeal.τ Cert.KernelIdeal.sig) → Buf (Elt Ideal) ℓ) : Prop :=
  ∀ c : Dev Cert.KernelIdeal.nD,
    (Cert.Pre_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits [hPre_fits : Cert.Pre_fits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_fits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_fits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_fits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_fits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_fits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_fits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_fits [hKernelIdeal : Cert.KernelIdeal.Facts] [hPre_fits : Cert.Pre_fits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_fits [hReferenceIdeal : Cert.ReferenceIdeal.Facts] [hPre_fits : Cert.Pre_fits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_fits [hKernelIdeal : Cert.KernelIdeal.Facts] [hReferenceIdeal : Cert.ReferenceIdeal.Facts] [hPre_fits : Cert.Pre_fits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_fits : Cert.Pre_fits.Facts),
    quiescent_Kernel (hKernel := hKernel)
    ∧ quiescent_KernelIdeal (hKernelIdeal := hKernelIdeal)
    ∧ quiescent_KernelIdeal_pre_fits (hKernelIdeal := hKernelIdeal) (hPre_fits := hPre_fits)
    ∧ quiescent_ReferenceIdeal (hReferenceIdeal := hReferenceIdeal)
    ∧ quiescent_ReferenceIdeal_pre_fits (hReferenceIdeal := hReferenceIdeal) (hPre_fits := hPre_fits)
    ∧ preserves_Kernel_KernelIdeal
    ∧ algebraic_KernelIdeal_ReferenceIdeal_pre_fits (hKernelIdeal := hKernelIdeal) (hReferenceIdeal := hReferenceIdeal) (hPre_fits := hPre_fits)
-- ==== Pre_fits.lean ====
abbrev S1x128x4096 : Shape := ⟨3, ![1, 128, 4096]⟩
abbrev S_ : Shape := ⟨0, ![]⟩
abbrev S4096x14336 : Shape := ⟨2, ![4096, 14336]⟩
abbrev S14336 : Shape := ⟨1, ![14336]⟩

class Facts : Prop where
  bcast_S_S14336 : S_.BroadcastsInDim S14336 (![] : Fin 0 → Fin S14336.rank)

variable [Facts]

def fn {F : FTy → Type} [FloatOps F] (main_arg0 : IVec S1x128x4096 8) (main_arg1 : IVec S_ 32) (main_arg2 : IVec S4096x14336 8) (main_arg3 : IVec S14336 32) (main_arg4 : IVec S14336 32) (main_arg5 : IVec S14336 32) (main_arg6 : IVec S_ 32) : IVec S14336 1 × IVec S14336 1 × IVec S14336 1 × IVec S14336 1 × IVec S14336 1 × IVec S_ 1 × IVec S_ 1 :=
  let main_c : IVec S_ 32 := constantI S_ 32 3355443200#32
  let main_v0 : IVec S14336 32 := broadcastInDim S14336 ![] bcast_S_S14336 main_c
  let main_v1 : IVec S14336 1 := cmpi .sge main_arg3 main_v0
  let main_c_0 : IVec S_ 32 := constantI S_ 32 939524096#32
  let main_v2 : IVec S14336 32 := broadcastInDim S14336 ![] bcast_S_S14336 main_c_0
  let main_v3 : IVec S14336 1 := cmpi .sle main_arg3 main_v2
  let main_c_1 : IVec S_ 32 := constantI S_ 32 0#32
  let main_v4 : IVec S14336 32 := broadcastInDim S14336 ![] bcast_S_S14336 main_c_1
  let main_v5 : IVec S14336 1 := cmpi .sge main_arg4 main_v4
  let main_c_2 : IVec S_ 32 := constantI S_ 32 1#32
  let main_v6 : IVec S14336 32 := broadcastInDim S14336 ![] bcast_S_S14336 main_c_2
  let main_v7 : IVec S14336 1 := cmpi .sge main_arg5 main_v6
  let main_c_3 : IVec S_ 32 := constantI S_ 32 31#32
  let main_v8 : IVec S14336 32 := broadcastInDim S14336 ![] bcast_S_S14336 main_c_3
  let main_v9 : IVec S14336 1 := cmpi .sle main_arg5 main_v8
  let main_c_4 : IVec S_ 32 := constantI S_ 32 3221225728#32
  let main_v10 : IVec S_ 1 := cmpi .sge main_arg6 main_c_4
  let main_c_5 : IVec S_ 32 := constantI S_ 32 1073741568#32
  let main_v11 : IVec S_ 1 := cmpi .sle main_arg6 main_c_5
  (main_v1, main_v3, main_v5, main_v7, main_v9, main_v10, main_v11)
-- ==== Kernel.lean ====
abbrev S1x128x4096 : Shape := ⟨3, ![1, 128, 4096]⟩
abbrev S_ : Shape := ⟨0, ![]⟩
abbrev S4096x14336 : Shape := ⟨2, ![4096, 14336]⟩
abbrev S14336 : Shape := ⟨1, ![14336]⟩
abbrev S1 : Shape := ⟨1, ![1]⟩
abbrev S2 : Shape := ⟨1, ![2]⟩
abbrev S128x4096 : Shape := ⟨2, ![128, 4096]⟩
abbrev S1x14336 : Shape := ⟨2, ![1, 14336]⟩
abbrev S128x14336 : Shape := ⟨2, ![128, 14336]⟩
abbrev S4096x1024 : Shape := ⟨2, ![4096, 1024]⟩
abbrev S1x1024 : Shape := ⟨2, ![1, 1024]⟩
abbrev S128x1024 : Shape := ⟨2, ![128, 1024]⟩
abbrev S1x256 : Shape := ⟨2, ![1, 256]⟩
abbrev S128x256 : Shape := ⟨2, ![128, 256]⟩
abbrev S128x512 : Shape := ⟨2, ![128, 512]⟩
abbrev S512x256 : Shape := ⟨2, ![512, 256]⟩
abbrev S1x128x14336 : Shape := ⟨3, ![1, 128, 14336]⟩

abbrev nBuf : Space → Nat
  | .hbm => 18
  | .vmem => 12
  | .smem => 1
  | _ => 0

abbrev bufTy : (tb : Table) → Fin (tcTables nBuf tb) → BufTy
  | .hbm, ⟨0, _⟩ => ⟨S1x128x4096, .i8⟩
  | .hbm, ⟨1, _⟩ => ⟨S_, .i32⟩
  | .hbm, ⟨2, _⟩ => ⟨S4096x14336, .i8⟩
  | .hbm, ⟨3, _⟩ => ⟨S14336, .i32⟩
  | .hbm, ⟨4, _⟩ => ⟨S14336, .i32⟩
  | .hbm, ⟨5, _⟩ => ⟨S14336, .i32⟩
  | .hbm, ⟨6, _⟩ => ⟨S_, .i32⟩
  | .hbm, ⟨7, _⟩ => ⟨S_, .i8⟩
  | .hbm, ⟨8, _⟩ => ⟨S_, .i32⟩
  | .hbm, ⟨9, _⟩ => ⟨S1, .i32⟩
  | .hbm, ⟨10, _⟩ => ⟨S1, .i32⟩
  | .hbm, ⟨11, _⟩ => ⟨S2, .i32⟩
  | .hbm, ⟨12, _⟩ => ⟨S128x4096, .i8⟩
  | .hbm, ⟨13, _⟩ => ⟨S1x14336, .i32⟩
  | .hbm, ⟨14, _⟩ => ⟨S1x14336, .i32⟩
  | .hbm, ⟨15, _⟩ => ⟨S1x14336, .i32⟩
  | .hbm, ⟨16, _⟩ => ⟨S128x14336, .i8⟩
  | .hbm, ⟨17, _⟩ => ⟨S1x128x14336, .i8⟩
  | .local _ .vmem, ⟨0, _⟩ => ⟨S128x4096, .i8⟩
  | .local _ .vmem, ⟨1, _⟩ => ⟨S4096x1024, .i8⟩
  | .local _ .vmem, ⟨2, _⟩ => ⟨S4096x1024, .i8⟩
  | .local _ .vmem, ⟨3, _⟩ => ⟨S1x1024, .i32⟩
  | .local _ .vmem, ⟨4, _⟩ => ⟨S1x1024, .i32⟩
  | .local _ .vmem, ⟨5, _⟩ => ⟨S1x1024, .i32⟩
  | .local _ .vmem, ⟨6, _⟩ => ⟨S1x1024, .i32⟩
  | .local _ .vmem, ⟨7, _⟩ => ⟨S1x1024, .i32⟩
  | .local _ .vmem, ⟨8, _⟩ => ⟨S1x1024, .i32⟩
  | .local _ .vmem, ⟨9, _⟩ => ⟨S128x1024, .i8⟩
  | .local _ .vmem, ⟨10, _⟩ => ⟨S128x1024, .i8⟩
  | .local _ .vmem, ⟨11, _⟩ => ⟨S128x4096, .bf16⟩
  | .local _ .smem, ⟨0, _⟩ => ⟨S2, .i32⟩
  | _, _ => ⟨S1x128x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![14], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x4096 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x128x4096 : Shape := ⟨3, ![1, 128, 4096]⟩
abbrev S_ : Shape := ⟨0, ![]⟩
abbrev S4096x14336 : Shape := ⟨2, ![4096, 14336]⟩
abbrev S14336 : Shape := ⟨1, ![14336]⟩
abbrev S128x4096 : Shape := ⟨2, ![128, 4096]⟩
abbrev S1x4096 : Shape := ⟨2, ![1, 4096]⟩
abbrev S129x4096 : Shape := ⟨2, ![129, 4096]⟩
abbrev S129x4096x1 : Shape := ⟨3, ![129, 4096, 1]⟩
abbrev S1x4096x14336 : Shape := ⟨3, ![1, 4096, 14336]⟩
abbrev S129x4096x14336 : Shape := ⟨3, ![129, 4096, 14336]⟩
abbrev S129x14336 : Shape := ⟨2, ![129, 14336]⟩
abbrev S128x14336 : Shape := ⟨2, ![128, 14336]⟩
abbrev S1x14336 : Shape := ⟨2, ![1, 14336]⟩
abbrev S1x128x14336 : Shape := ⟨3, ![1, 128, 14336]⟩

abbrev nBuf : Space → Nat
  | .hbm => 115
  | .vmem => 0
  | .smem => 0
  | _ => 0

abbrev bufTy : (tb : Table) → Fin (tcTables nBuf tb) → BufTy
  | .hbm, ⟨0, _⟩ => ⟨S1x128x4096, .i8⟩
  | .hbm, ⟨1, _⟩ => ⟨S_, .i32⟩
  | .hbm, ⟨2, _⟩ => ⟨S4096x14336, .i8⟩
  | .hbm, ⟨3, _⟩ => ⟨S14336, .i32⟩
  | .hbm, ⟨4, _⟩ => ⟨S14336, .i32⟩
  | .hbm, ⟨5, _⟩ => ⟨S14336, .i32⟩
  | .hbm, ⟨6, _⟩ => ⟨S_, .i32⟩
  | .hbm, ⟨7, _⟩ => ⟨S128x4096, .i8⟩
  | .hbm, ⟨8, _⟩ => ⟨S1x4096, .i32⟩
  | .hbm, ⟨9, _⟩ => ⟨S1x4096, .i8⟩
  | .hbm, ⟨10, _⟩ => ⟨S129x4096, .i8⟩
  | .hbm, ⟨11, _⟩ => ⟨S129x4096, .i32⟩
  | .hbm, ⟨12, _⟩ => ⟨S129x4096x1, .i32⟩
  | .hbm, ⟨13, _⟩ => ⟨S4096x14336, .i32⟩
  | .hbm, ⟨14, _⟩ => ⟨S1x4096x14336, .i32⟩
  | .hbm, ⟨15, _⟩ => ⟨S129x4096x14336, .i32⟩
  | .hbm, ⟨16, _⟩ => ⟨S129x4096x14336, .i32⟩
  | .hbm, ⟨17, _⟩ => ⟨S129x4096x14336, .i32⟩
  | .hbm, ⟨18, _⟩ => ⟨S_, .i32⟩
  | .hbm, ⟨19, _⟩ => ⟨S129x14336, .i32⟩
  | .hbm, ⟨20, _⟩ => ⟨S128x14336, .i32⟩
  | .hbm, ⟨21, _⟩ => ⟨S1x14336, .i32⟩
  | .hbm, ⟨22, _⟩ => ⟨S128x14336, .i32⟩
  | .hbm, ⟨23, _⟩ => ⟨S128x14336, .i32⟩
  | .hbm, ⟨24, _⟩ => ⟨S1x14336, .i32⟩
  | .hbm, ⟨25, _⟩ => ⟨S128x14336, .i32⟩
  | .hbm, ⟨26, _⟩ => ⟨S128x14336, .i32⟩
  | .hbm, ⟨27, _⟩ => ⟨S1x14336, .i32⟩
  | .hbm, ⟨28, _⟩ => ⟨S128x14336, .i32⟩
  | .hbm, ⟨29, _⟩ => ⟨S_, .i32⟩
  | .hbm, ⟨30, _⟩ => ⟨S128x14336, .i32⟩
  | .hbm, ⟨31, _⟩ => ⟨S128x14336, .i1⟩
  | .hbm, ⟨32, _⟩ => ⟨S128x14336, .i32⟩
  | .hbm, ⟨33, _⟩ => ⟨S128x14336, .i32⟩
  | .hbm, ⟨34, _⟩ => ⟨S128x14336, .i32⟩
  | .hbm, ⟨35, _⟩ => ⟨S_, .i32⟩
  | .hbm, ⟨36, _⟩ => ⟨S128x14336, .i32⟩
  | .hbm, ⟨37, _⟩ => ⟨S128x14336, .i32⟩
  | .hbm, ⟨38, _⟩ => ⟨S_, .i32⟩
  | .hbm, ⟨39, _⟩ => ⟨S128x14336, .i32⟩
  | .hbm, ⟨40, _⟩ => ⟨S128x14336, .i32⟩
  | .hbm, ⟨41, _⟩ => ⟨S_, .i32⟩
  | .hbm, ⟨42, _⟩ => ⟨S128x14336, .i32⟩
  | .hbm, ⟨43, _⟩ => ⟨S128x14336, .i32⟩
  | .hbm, ⟨44, _⟩ => ⟨S_, .i32⟩
  | .hbm, ⟨45, _⟩ => ⟨S128x14336, .i32⟩
  | .hbm, ⟨46, _⟩ => ⟨S128x14336, .i32⟩
  | .hbm, ⟨47, _⟩ => ⟨S128x14336, .i32⟩
  | .hbm, ⟨48, _⟩ => ⟨S128x14336, .i32⟩
  | .hbm, ⟨49, _⟩ => ⟨S128x14336, .i32⟩
  | .hbm, ⟨50, _⟩ => ⟨S128x14336, .i32⟩
  | .hbm, ⟨51, _⟩ => ⟨S128x14336, .i32⟩
  | .hbm, ⟨52, _⟩ => ⟨S_, .i32⟩
  | .hbm, ⟨53, _⟩ => ⟨S128x14336, .i32⟩
  | .hbm, ⟨54, _⟩ => ⟨S128x14336, .i32⟩
  | .hbm, ⟨55, _⟩ => ⟨S128x14336, .i32⟩
  | .hbm, ⟨56, _⟩ => ⟨S128x14336, .i1⟩
  | .hbm, ⟨57, _⟩ => ⟨S128x14336, .i32⟩
  | .hbm, ⟨58, _⟩ => ⟨S_, .i32⟩
  | .hbm, ⟨59, _⟩ => ⟨S128x14336, .i32⟩
  | .hbm, ⟨60, _⟩ => ⟨S128x14336, .i32⟩
  | .hbm, ⟨61, _⟩ => ⟨S128x14336, .i32⟩
  | .hbm, ⟨62, _⟩ => ⟨S128x14336, .i32⟩
  | .hbm, ⟨63, _⟩ => ⟨S_, .i32⟩
  | .hbm, ⟨64, _⟩ => ⟨S_, .i32⟩
  | .hbm, ⟨65, _⟩ => ⟨S128x14336, .i32⟩
  | .hbm, ⟨66, _⟩ => ⟨S128x14336, .i32⟩
  | .hbm, ⟨67, _⟩ => ⟨S128x14336, .i32⟩
  | .hbm, ⟨68, _⟩ => ⟨S128x14336, .i32⟩
  | .hbm, ⟨69, _⟩ => ⟨S128x14336, .i1⟩
  | .hbm, ⟨70, _⟩ => ⟨S128x14336, .i32⟩
  | .hbm, ⟨71, _⟩ => ⟨S128x14336, .i32⟩
  | .hbm, ⟨72, _⟩ => ⟨S_, .i32⟩
  | .hbm, ⟨73, _⟩ => ⟨S128x14336, .i32⟩
  | .hbm, ⟨74, _⟩ => ⟨S128x14336, .i32⟩
  | .hbm, ⟨75, _⟩ => ⟨S_, .i32⟩
  | .hbm, ⟨76, _⟩ => ⟨S128x14336, .i32⟩
  | .hbm, ⟨77, _⟩ => ⟨S128x14336, .i32⟩
  | .hbm, ⟨78, _⟩ => ⟨S128x14336, .i32⟩
  | .hbm, ⟨79, _⟩ => ⟨S128x14336, .i32⟩
  | .hbm, ⟨80, _⟩ => ⟨S128x14336, .i32⟩
  | .hbm, ⟨81, _⟩ => ⟨S128x14336, .i32⟩
  | .hbm, ⟨82, _⟩ => ⟨S1x14336, .i32⟩
  | .hbm, ⟨83, _⟩ => ⟨S128x14336, .i32⟩
  | .hbm, ⟨84, _⟩ => ⟨S_, .i32⟩
  | .hbm, ⟨85, _⟩ => ⟨S128x14336, .i32⟩
  | .hbm, ⟨86, _⟩ => ⟨S128x14336, .i32⟩
  | .hbm, ⟨87, _⟩ => ⟨S_, .i32⟩
  | .hbm, ⟨88, _⟩ => ⟨S128x14336, .i32⟩
  | .hbm, ⟨89, _⟩ => ⟨S128x14336, .i32⟩
  | .hbm, ⟨90, _⟩ => ⟨S128x14336, .i32⟩
  | .hbm, ⟨91, _⟩ => ⟨S_, .i32⟩
  | .hbm, ⟨92, _⟩ => ⟨S128x14336, .i32⟩
  | .hbm, ⟨93, _⟩ => ⟨S128x14336, .i32⟩
  | .hbm, ⟨94, _⟩ => ⟨S_, .i32⟩
  | .hbm, ⟨95, _⟩ => ⟨S128x14336, .i32⟩
  | .hbm, ⟨96, _⟩ => ⟨S128x14336, .i1⟩
  | .hbm, ⟨97, _⟩ => ⟨S128x14336, .i32⟩
  | .hbm, ⟨98, _⟩ => ⟨S128x14336, .i32⟩
  | .hbm, ⟨99, _⟩ => ⟨S128x14336, .i32⟩
  | .hbm, ⟨100, _⟩ => ⟨S128x14336, .i1⟩
  | .hbm, ⟨101, _⟩ => ⟨S128x14336, .i32⟩
  | .hbm, ⟨102, _⟩ => ⟨S128x14336, .i32⟩
  | .hbm, ⟨103, _⟩ => ⟨S128x14336, .i32⟩
  | .hbm, ⟨104, _⟩ => ⟨S128x14336, .i32⟩
  | .hbm, ⟨105, _⟩ => ⟨S_, .i32⟩
  | .hbm, ⟨106, _⟩ => ⟨S_, .i32⟩
  | .hbm, ⟨107, _⟩ => ⟨S_, .i32⟩
  | .hbm, ⟨108, _⟩ => ⟨S128x14336, .i32⟩
  | .hbm, ⟨109, _⟩ => ⟨S128x14336, .i32⟩
  | .hbm, ⟨110, _⟩ => ⟨S_, .i32⟩
  | .hbm, ⟨111, _⟩ => ⟨S128x14336, .i32⟩
  | .hbm, ⟨112, _⟩ => ⟨S128x14336, .i32⟩
  | .hbm, ⟨113, _⟩ => ⟨S128x14336, .i8⟩
  | .hbm, ⟨114, _⟩ => ⟨S1x128x14336, .i8⟩
  | _, _ => ⟨S1x128x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_1 : Ref sig .tc := ⟨.hbm, 35, rfl⟩
abbrev main_v26 : Ref sig .tc := ⟨.hbm, 36, rfl⟩
abbrev main_v27 : Ref sig .tc := ⟨.hbm, 37, rfl⟩
abbrev main_c_2 : Ref sig .tc := ⟨.hbm, 38, rfl⟩
abbrev main_v28 : Ref sig .tc := ⟨.hbm, 39, rfl⟩
abbrev main_v29 : Ref sig .tc := ⟨.hbm, 40, rfl⟩
abbrev main_c_3 : Ref sig .tc := ⟨.hbm, 41, rfl⟩
abbrev main_v30 : Ref sig .tc := ⟨.hbm, 42, rfl⟩
abbrev main_v31 : Ref sig .tc := ⟨.hbm, 43, rfl⟩
abbrev main_c_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c_7 : Ref sig .tc := ⟨.hbm, 63, rfl⟩
abbrev main_c_8 : Ref sig .tc := ⟨.hbm, 64, rfl⟩
abbrev main_call0_v0 : Ref sig .tc := ⟨.hbm, 65, rfl⟩
abbrev main_call0_v1 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_9 : Ref sig .tc := ⟨.hbm, 72, rfl⟩
abbrev main_v53 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_11 : Ref sig .tc := ⟨.hbm, 84, rfl⟩
abbrev main_v63 : Ref sig .tc := ⟨.hbm, 85, rfl⟩
abbrev main_v64 : Ref sig .tc := ⟨.hbm, 86, rfl⟩
abbrev main_c_12 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_13 : Ref sig .tc := ⟨.hbm, 91, rfl⟩
abbrev main_v68 : Ref sig .tc := ⟨.hbm, 92, rfl⟩
abbrev main_v69 : Ref sig .tc := ⟨.hbm, 93, rfl⟩
abbrev main_c_14 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_c_15 : Ref sig .tc := ⟨.hbm, 105, rfl⟩
abbrev main_c_16 : Ref sig .tc := ⟨.hbm, 106, rfl⟩
abbrev main_call2_v0 : Ref sig .tc := ⟨.hbm, 107, rfl⟩
abbrev main_call2_v1 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩

abbrev nD : Nat := 1
abbrev τ : Topo := Topo.v7x

variable {F : FTy → Type} [FloatOps F]
-- ==== Proof.Words.lean ====
/- Words as integers. A 32-bit word is written `BitVec.ofInt 32 z`; this module says what each integer operation of the
   programs does to such words, in terms of the integers `z`, as long as they stay in range. -/
module

public import Idealize.ShloMosaic.PureOps
public import Mathlib.Data.BitVec
public import Mathlib.Tactic.Ring

@[expose] public section

set_option maxRecDepth 16384

namespace Cert.Words

open Idealize.ShloMosaic

/-- The word of an integer. -/
abbrev W (z : ℤ) : BitVec 32 := BitVec.ofInt 32 z

/-- Every word is the word of its signed value. -/
theorem W_toInt (x : BitVec 32) : W x.toInt = x := BitVec.ofInt_toInt

/-- The signed value of the word of an integer in the signed range. -/
theorem toInt_W {z : ℤ} (h : -2147483648 ≤ z ∧ z < 2147483648) : (W z).toInt = z :=
  BitVec.toInt_ofInt_eq_self (by decide) (by norm_num; omega) (by norm_num; omega)

/-- The unsigned value of the word of an integer in the unsigned range. -/
theorem toNat_W {z : ℤ} (h : 0 ≤ z ∧ z < 4294967296) : (W z).toNat = z.toNat := by
  rw [BitVec.toNat_ofInt]; norm_num; rw [Int.emod_eq_of_lt h.1 h.2]

/-- Words whose integers agree modulo `2^32` are equal. -/
theorem W_congr {a b : ℤ} (h : a % 4294967296 = b % 4294967296) : W a = W b := by
  apply BitVec.eq_of_toNat_eq
  rw [BitVec.toNat_ofInt, BitVec.toNat_ofInt]
  norm_num [h]

/-- The sum of two words is the word of the sum. -/
theorem addi_W (a b : ℤ) : IntOp.addi (W a) (W b) = W (a + b) := (BitVec.ofInt_add a b).symm
/-- The product of two words is the word of the product. -/
theorem muli_W (a b : ℤ) : IntOp.muli (W a) (W b) = W (a * b) := (BitVec.ofInt_mul a b).symm
/-- The difference of two words is the word of the difference. -/
theorem subi_W (a b : ℤ) : IntOp.subi (W a) (W b) = W (a - b) := by
  show W a - W b = W (a - b)
  rw [BitVec.sub_eq_iff_eq_add]
  rw [← BitVec.ofInt_add]; congr 1; omega
/-- The negation of a word is the word of the negation. -/
theorem neg_W (a : ℤ) : -(W a) = W (-a) := (BitVec.ofInt_neg).symm

/-- An arithmetic right shift by `k < 32` divides by `2^k`, rounding down. -/
theorem shrsi_W (u : ArithUnit) {z : ℤ} {k : ℕ} (hk : k < 32) (h : -2147483648 ≤ z ∧ z < 2147483648) :
    IntOp.shrsi u (W z) (W k) = W (z / 2 ^ k) := by
  have hn : (W k).toNat = k := by rw [toNat_W (by omega)]; simp
  unfold IntOp.shrsi
  rw [hn, if_pos hk, ← W_toInt (BitVec.sshiftRight' _ _)]
  congr 1
  rw [BitVec.sshiftRight', hn, BitVec.toInt_sshiftRight, toInt_W h, Int.shiftRight_eq_div_pow]
  norm_cast

/-- A logical right shift by `k < 32` of a word read unsigned divides by `2^k`. -/
theorem shrui_W (u : ArithUnit) {z : ℤ} {k : ℕ} (hk : k < 32) (h : 0 ≤ z ∧ z < 4294967296) :
    IntOp.shrui u (W z) (W k) = W (z / 2 ^ k) := by
  have hn : (W k).toNat = k := by rw [toNat_W (by omega)]; simp
  unfold IntOp.shrui
  rw [hn, if_pos hk]
  apply BitVec.eq_of_toNat_eq
  have hp : (1 : ℤ) ≤ 2 ^ k := by exact_mod_cast Nat.one_le_two_pow (n := k)
  have hq : 0 ≤ z / 2 ^ k := Int.ediv_nonneg h.1 (by omega)
  have hle : z / 2 ^ k ≤ z := Int.ediv_le_self _ h.1
  rw [BitVec.ushiftRight_eq', BitVec.toNat_ushiftRight, hn, toNat_W h, toNat_W ⟨hq, by omega⟩, Nat.shiftRight_eq_div_pow]
  have := Int.toNat_of_nonneg h.1
  have h2 : ((z.toNat / 2 ^ k : ℕ) : ℤ) = z / 2 ^ k := by push_cast; rw [this]
  omega

/-- A left shift by `k < 32` multiplies by `2^k`. -/
theorem shli_W (u : ArithUnit) {z : ℤ} {k : ℕ} (hk : k < 32) :
    IntOp.shli u (W z) (W k) = W (z * 2 ^ k) := by
  have hn : (W k).toNat = k := by rw [toNat_W (by omega)]; simp
  unfold IntOp.shli
  rw [hn, if_pos hk, BitVec.shiftLeft_eq', hn, BitVec.shiftLeft_eq_mul_twoPow]
  refine Eq.trans ?_ (BitVec.ofInt_mul z (2 ^ k)).symm
  congr 1
  apply BitVec.eq_of_toNat_eq
  rw [BitVec.toNat_twoPow, BitVec.toNat_ofInt]
  norm_cast

/-- Masking by `2^k - 1` keeps the remainder modulo `2^k`. -/
theorem andi_W {z : ℤ} {k : ℕ} (hk : k < 32) :
    IntOp.andi (W z) (W (2 ^ k - 1)) = W (z % 2 ^ k) := by
  have hp : (2 : ℕ) ^ k ≤ 2 ^ 31 := Nat.pow_le_pow_right (by norm_num) (by omega)
  have hp1 : 1 ≤ (2 : ℕ) ^ k := Nat.one_le_two_pow
  have hpz : ((2 ^ k : ℕ) : ℤ) = 2 ^ k := by push_cast; rfl
  have hdvd : ((2 : ℤ) ^ k) ∣ 4294967296 := ⟨2 ^ (32 - k), by rw [← pow_add]; rw [show k + (32 - k) = 32 by omega]; norm_num⟩
  have hr0 : 0 ≤ z % 2 ^ k := Int.emod_nonneg _ (by omega)
  have hr1 : z % 2 ^ k < 2 ^ k := Int.emod_lt_of_pos _ (by omega)
  apply BitVec.eq_of_toNat_eq
  unfold IntOp.andi
  rw [BitVec.toNat_and, toNat_W (z := 2 ^ k - 1) (by omega), toNat_W (z := z % 2 ^ k) (by omega)]
  rw [show ((2 : ℤ) ^ k - 1).toNat = 2 ^ k - 1 by omega, Nat.and_two_pow_sub_one_eq_mod, BitVec.toNat_ofInt]
  have h1 : 0 ≤ z % 4294967296 := Int.emod_nonneg _ (by norm_num)
  have h2 : z % 4294967296 % 2 ^ k = z % 2 ^ k := Int.emod_emod_of_dvd z hdvd
  norm_num
  have h3 : (((z % 4294967296).toNat % 2 ^ k : ℕ) : ℤ) = z % 4294967296 % 2 ^ k := by
    push_cast; rw [Int.toNat_of_nonneg h1]
  omega

/-- Masking by 65535 keeps the low sixteen bits. -/
theorem andi_W16 (z : ℤ) : IntOp.andi (W z) (W 65535) = W (z % 65536) := by
  have := andi_W (z := z) (k := 16) (by decide)
  norm_num at this
  exact this

/-- The signed comparison of words in range is the comparison of the integers. -/
theorem slt_W {a b : ℤ} (ha : -2147483648 ≤ a ∧ a < 2147483648) (hb : -2147483648 ≤ b ∧ b < 2147483648) :
    (W a).slt (W b) = decide (a < b) := by
  rw [BitVec.slt_eq_decide, toInt_W ha, toInt_W hb]

/-- The unsigned comparison of words in range is the comparison of the integers. -/
theorem ult_W {a b : ℤ} (ha : 0 ≤ a ∧ a < 4294967296) (hb : 0 ≤ b ∧ b < 4294967296) :
    (W a).ult (W b) = decide (a < b) := by
  rw [BitVec.ult_eq_decide, toNat_W ha, toNat_W hb]
  congr 1
  simp only [eq_iff_iff]; omega

/-- The greater of two words in the signed range is the word of the greater. -/
theorem maxsi_W {a b : ℤ} (ha : -2147483648 ≤ a ∧ a < 2147483648) (hb : -2147483648 ≤ b ∧ b < 2147483648) :
    IntOp.maxsi (W a) (W b) = W (max a b) := by
  unfold IntOp.maxsi
  rw [slt_W hb ha]
  by_cases h : b < a
  · simp [h, max_eq_left h.le]
  · simp [h, max_eq_right (not_lt.mp h)]

/-- The lesser of two words in the signed range is the word of the lesser. -/
theorem minsi_W {a b : ℤ} (ha : -2147483648 ≤ a ∧ a < 2147483648) (hb : -2147483648 ≤ b ∧ b < 2147483648) :
    IntOp.minsi (W a) (W b) = W (min a b) := by
  unfold IntOp.minsi
  rw [slt_W ha hb]
  by_cases h : a < b
  · simp [h, min_eq_left h.le]
  · simp [h, min_eq_right (not_lt.mp h)]

/-- The magnitude of a word in the signed range, its least value aside, is the word of the magnitude. -/
theorem absi_W {a : ℤ} (ha : -2147483648 < a ∧ a < 2147483648) : IntOp.absi (W a) = W |a| := by
  unfold IntOp.absi
  rw [BitVec.msb_eq_toInt, toInt_W (by omega)]
  by_cases h : a < 0
  · simp only [h, decide_true, ↓reduceIte, neg_W]; rw [abs_of_neg h]
  · simp only [h, decide_false, Bool.false_eq_true, ↓reduceIte]; rw [abs_of_nonneg (not_lt.mp h)]

/-- A left shift by one and the bit below it, joined. -/
theorem ori_W {a b : ℤ} (ha : 0 ≤ a ∧ a < 2147483648) (hb : 0 ≤ b ∧ b < 2) : IntOp.ori (W (a * 2)) (W b) = W (a * 2 + b) := by
  apply BitVec.eq_of_toNat_eq
  unfold IntOp.ori
  rw [BitVec.toNat_or, toNat_W (by omega), toNat_W (by omega), toNat_W (by omega)]
  have h := Nat.two_pow_add_eq_or_of_lt (i := 1) (b := b.toNat) (by omega) a.toNat
  rw [show (a * 2).toNat = 2 ^ 1 * a.toNat by omega, ← h]
  omega

end Cert.Words
-- ==== Proof.Requant.lean ====
/- The requantisation of one accumulator word. The kernel's way (`kOut`: one signed multiply-high in 16-bit halves, one shift,
   a clip in doubled units, a halving shift) and the reference's way (`rOut`: the sign and the magnitude multiplied as 64
   bits in two words, a rounding division with its remainder and threshold, an addition, a clip) give the same byte
   whenever the parameters are in range (`kOut_eq_rOut`). Both are pinned to integers first. -/
module

public import proofs.«01_k».proof.Proof.Words
public import Mathlib.Tactic.NormNum
public import Mathlib.Tactic.Linarith

@[expose] public section

set_option maxRecDepth 16384

namespace Cert.Words

open Idealize.ShloMosaic

/-! ## The kernel's word -/

/-- The kernel's rounded high half of `2 · acc · m0`, from 16-bit halves. -/
def kHigh (acc m0 : BitVec 32) : BitVec 32 :=
  IntOp.addi
    (IntOp.addi
      (IntOp.muli (IntOp.shrsi .vector acc 16#32) (IntOp.shli .vector (IntOp.shrsi .vector m0 16#32) 1#32))
      (IntOp.shrsi .vector
        (IntOp.addi
          (IntOp.addi
            (IntOp.addi
              (IntOp.muli (IntOp.andi acc 65535#32) (IntOp.shrsi .vector m0 16#32))
              (IntOp.shrui .vector (IntOp.muli (IntOp.andi acc 65535#32) (IntOp.andi m0 65535#32)) 16#32))
            3221241856#32)
          (IntOp.muli (IntOp.shrsi .vector acc 16#32) (IntOp.andi m0 65535#32)))
        15#32))
    32768#32

/-- The kernel's output byte for the zero point `y`, the accumulator, the multiplier and the shift. -/
def kOut (y acc m0 sh : BitVec 32) : BitVec 8 :=
  (IntOp.shrsi .vector
    (IntOp.addi
      (IntOp.minsi (IntOp.subi 254#32 (IntOp.muli 2#32 y))
        (IntOp.maxsi (IntOp.subi 4294967039#32 (IntOp.muli 2#32 y))
          (IntOp.shrsi .vector (IntOp.addi (kHigh acc m0) (IntOp.shrsi .vector acc 31#32)) (IntOp.subi sh 1#32))))
      (IntOp.addi 1#32 (IntOp.muli 2#32 y)))
    1#32).setWidth 8

/-! ## The reference's word -/

/-- The reference's magnitude product's low word, before the nudge. -/
def rLow (m b : BitVec 32) : BitVec 32 :=
  IntOp.addi (IntOp.muli (IntOp.andi m 65535#32) (IntOp.andi b 65535#32))
    (IntOp.shli .host
      (IntOp.addi (IntOp.muli (IntOp.shrui .host m 16#32) (IntOp.andi b 65535#32))
        (IntOp.muli (IntOp.andi m 65535#32) (IntOp.shrui .host b 16#32))) 16#32)

/-- The reference's magnitude product's high word, before the nudge. -/
def rHigh (m b : BitVec 32) : BitVec 32 :=
  IntOp.addi
    (IntOp.addi (IntOp.muli (IntOp.shrui .host m 16#32) (IntOp.shrui .host b 16#32))
      (IntOp.shrui .host
        (IntOp.addi (IntOp.muli (IntOp.shrui .host m 16#32) (IntOp.andi b 65535#32))
          (IntOp.muli (IntOp.andi m 65535#32) (IntOp.shrui .host b 16#32))) 16#32))
    ((IntOp.cmpi .ult (rLow m b) (IntOp.muli (IntOp.andi m 65535#32) (IntOp.andi b 65535#32))).setWidth 32)

/-- The reference's nudge: half of `2^31`, one less for a negative accumulator. -/
def rNudge (a : BitVec 32) : BitVec 32 := Scalar.select (IntOp.cmpi .slt a 0#32) 1073741823#32 1073741824#32

/-- The reference's magnitude of the saturating rounding doubling high multiply. -/
def rMag (a b : BitVec 32) : BitVec 32 :=
  IntOp.ori
    (IntOp.shli .host
      (IntOp.addi (rHigh (IntOp.absi a) b)
        ((IntOp.cmpi .ult (IntOp.addi (rLow (IntOp.absi a) b) (rNudge a)) (rLow (IntOp.absi a) b)).setWidth 32)) 1#32)
    (IntOp.shrui .host (IntOp.addi (rLow (IntOp.absi a) b) (rNudge a)) 31#32)

/-- The reference's rounding doubling high multiply. -/
def rSrdhm (a b : BitVec 32) : BitVec 32 := Scalar.select (IntOp.cmpi .slt a 0#32) (-(rMag a b)) (rMag a b)

/-- The reference's rounding division of `h` by `2^e`. -/
def rDiv (h e : BitVec 32) : BitVec 32 :=
  IntOp.addi (IntOp.shrsi .host h e)
    ((IntOp.cmpi .sgt (IntOp.andi h (IntOp.subi (IntOp.shli .host 1#32 e) 1#32))
      (IntOp.addi (IntOp.shrsi .host (IntOp.subi (IntOp.shli .host 1#32 e) 1#32) 1#32)
        ((IntOp.cmpi .slt h 0#32).setWidth 32))).setWidth 32)

/-- The reference's output byte. -/
def rOut (y acc m0 sh : BitVec 32) : BitVec 8 :=
  (IntOp.minsi 127#32 (IntOp.maxsi 4294967168#32 (IntOp.addi (rDiv (rSrdhm acc m0) sh) y))).setWidth 8

/-! ## The kernel's word as an integer -/

/-- The bounds of a product of two integers in ranges `[0, a]`, `[0, b]`. -/
theorem mul_bounds {x y a b : ℤ} (hx : 0 ≤ x ∧ x ≤ a) (hy : 0 ≤ y ∧ y ≤ b) : 0 ≤ x * y ∧ x * y ≤ a * b :=
  ⟨mul_nonneg hx.1 hy.1, mul_le_mul hx.2 hy.2 hy.1 (le_trans hx.1 hx.2)⟩

/-- The kernel's high half is `acc · m0 / 2^31` rounded to nearest. -/
theorem kHigh_W {A M : ℤ} (hA : -1073741824 ≤ A ∧ A < 1073741824) (hM : 0 ≤ M ∧ M < 2147483648) :
    kHigh (W A) (W M) = W ((A * M + 1073741824) / 2147483648) := by
  unfold kHigh
  rw [show (16#32 : BitVec 32) = W ((16 : ℕ) : ℤ) from rfl, show (1#32 : BitVec 32) = W ((1 : ℕ) : ℤ) from rfl,
    show (15#32 : BitVec 32) = W ((15 : ℕ) : ℤ) from rfl, show (65535#32 : BitVec 32) = W 65535 from rfl,
    show (32768#32 : BitVec 32) = W 32768 from rfl, show (3221241856#32 : BitVec 32) = W (-1073725440) from rfl]
  have hah : -16384 ≤ A / 2 ^ 16 ∧ A / 2 ^ 16 ≤ 16383 := by omega
  have hal : 0 ≤ A % 65536 ∧ A % 65536 ≤ 65535 := by omega
  have hmh : 0 ≤ M / 2 ^ 16 ∧ M / 2 ^ 16 ≤ 32767 := by omega
  have hml : 0 ≤ M % 65536 ∧ M % 65536 ≤ 65535 := by omega
  have hA' : A = A / 2 ^ 16 * 65536 + A % 65536 := by omega
  have hM' : M = M / 2 ^ 16 * 65536 + M % 65536 := by omega
  rw [shrsi_W _ (by decide) (by omega), shrsi_W (z := M) _ (by decide) (by omega), andi_W16, andi_W16]
  generalize A / 2 ^ 16 = ah at *
  generalize A % 65536 = al at *
  generalize M / 2 ^ 16 = mh at *
  generalize M % 65536 = ml at *
  have hs := mul_bounds hal hml
  have hr := mul_bounds hal hmh
  have hq : -16384 * 65535 ≤ ah * ml ∧ ah * ml ≤ 16383 * 65535 := by
    have h1 := mul_bounds (x := ah + 16384) (y := ml) (a := 32767) (b := 65535) (by omega) hml
    have h2 := mul_bounds (x := 16383 - ah) (y := ml) (a := 32767) (b := 65535) (by omega) hml
    rw [add_mul] at h1; rw [sub_mul] at h2
    constructor <;> omega
  have hAM : A * M = ah * mh * 4294967296 + (ah * ml + al * mh) * 65536 + al * ml := by
    rw [hA', hM']; ring
  rw [shli_W _ (by decide), muli_W, muli_W, muli_W, muli_W, shrui_W _ (by decide) (by omega), addi_W, addi_W, addi_W,
    shrsi_W _ (by decide) (by omega), addi_W, addi_W, hAM]
  congr 1
  have hp : ah * (mh * 2 ^ 1) = ah * mh * 2 := by ring
  rw [hp]
  generalize ah * mh = p at *
  generalize ah * ml = q at *
  generalize al * mh = r at *
  generalize al * ml = s at *
  omega

/-- The kernel's byte as an integer: the clip and the final halving applied to the shifted high half. -/
theorem kOut_W {A M Y : ℤ} {n : ℕ} (hA : -1073741824 ≤ A ∧ A < 1073741824) (hM : 0 ≤ M ∧ M < 2147483648) (hn : n < 31)
    (hY : -1073741568 ≤ Y ∧ Y ≤ 1073741568)
    (hH : -1073741824 ≤ (A * M + 1073741824) / 2147483648 ∧ (A * M + 1073741824) / 2147483648 ≤ 1073741824) :
    kOut (W Y) (W A) (W M) (W (n + 1)) =
      (W ((min (254 - 2 * Y) (max (-257 - 2 * Y) (((A * M + 1073741824) / 2147483648 + A / 2147483648) / 2 ^ n))
        + (1 + 2 * Y)) / 2)).setWidth 8 := by
  unfold kOut
  rw [kHigh_W hA hM]
  generalize (A * M + 1073741824) / 2147483648 = H at *
  rw [show (31#32 : BitVec 32) = W ((31 : ℕ) : ℤ) from rfl, shrsi_W _ (by decide) (by omega),
    show A / 2 ^ 31 = A / 2147483648 by norm_num, addi_W,
    show IntOp.subi (W (n + 1)) 1#32 = W (n : ℤ) by
      rw [show (1#32 : BitVec 32) = W 1 from rfl, subi_W]; congr 1; omega,
    shrsi_W _ (by omega) (by omega)]
  have hp : (1 : ℤ) ≤ 2 ^ n := by exact_mod_cast Nat.one_le_two_pow (n := n)
  have ht : -1073741825 ≤ (H + A / 2147483648) / 2 ^ n ∧ (H + A / 2147483648) / 2 ^ n ≤ 1073741824 := by
    constructor
    · rw [Int.le_ediv_iff_mul_le (by omega)]; nlinarith [hH.1, hA.1, show -1 ≤ A / 2147483648 by omega]
    · apply Int.ediv_le_of_le_mul (by omega); nlinarith [hH.2, hA.2, show A / 2147483648 ≤ 0 by omega]
  generalize (H + A / 2147483648) / 2 ^ n = t at *
  rw [show (254#32 : BitVec 32) = W 254 from rfl, show (4294967039#32 : BitVec 32) = W (-257) from rfl,
    show (2#32 : BitVec 32) = W 2 from rfl, muli_W, subi_W, subi_W, maxsi_W (by omega) (by omega),
    minsi_W (by omega) (by omega), show (1#32 : BitVec 32) = W ((1 : ℕ) : ℤ) from rfl, addi_W, addi_W,
    shrsi_W _ (by decide) (by push_cast; omega)]
  congr 2

/-! ## The reference's word as an integer -/

/-- A comparison's bit, widened, is the word of 1 or 0. -/
theorem setWidth_ofBool_decide (P : Prop) [Decidable P] :
    (BitVec.ofBool (decide P)).setWidth 32 = W (if P then 1 else 0) := by
  by_cases h : P <;> simp [h]

/-- The magnitude product in two words: `low` is the product modulo `2^32`, `high` its quotient. -/
theorem rLow_rHigh_W {m M : ℤ} (hm : 0 ≤ m ∧ m ≤ 1073741824) (hM : 0 ≤ M ∧ M < 2147483648) :
    rLow (W m) (W M) = W ((m * M) % 4294967296) ∧ rHigh (W m) (W M) = W (m * M / 4294967296) := by
  unfold rHigh rLow
  rw [show (16#32 : BitVec 32) = W ((16 : ℕ) : ℤ) from rfl, show (65535#32 : BitVec 32) = W 65535 from rfl]
  have hah : 0 ≤ m / 2 ^ 16 ∧ m / 2 ^ 16 ≤ 16384 := by omega
  have hal : 0 ≤ m % 65536 ∧ m % 65536 ≤ 65535 := by omega
  have hmh : 0 ≤ M / 2 ^ 16 ∧ M / 2 ^ 16 ≤ 32767 := by omega
  have hml : 0 ≤ M % 65536 ∧ M % 65536 ≤ 65535 := by omega
  have hm' : m = m / 2 ^ 16 * 65536 + m % 65536 := by omega
  have hM' : M = M / 2 ^ 16 * 65536 + M % 65536 := by omega
  rw [shrui_W _ (by decide) (by omega), shrui_W (z := M) _ (by decide) (by omega), andi_W16, andi_W16]
  generalize m / 2 ^ 16 = ah at *
  generalize m % 65536 = al at *
  generalize M / 2 ^ 16 = mh at *
  generalize M % 65536 = ml at *
  have hs := mul_bounds hal hml
  have hr := mul_bounds hal hmh
  have hq := mul_bounds hah hml
  have hp := mul_bounds hah hmh
  have hAM : m * M = ah * mh * 4294967296 + (ah * ml + al * mh) * 65536 + al * ml := by rw [hm', hM']; ring
  rw [muli_W, muli_W, muli_W, muli_W, addi_W, shli_W _ (by decide), addi_W, shrui_W _ (by decide) (by omega), addi_W, hAM]
  generalize ah * mh = p at *
  generalize ah * ml = q at *
  generalize al * mh = r at *
  generalize al * ml = s at *
  have hlow : W (s + (q + r) * 2 ^ 16) = W ((p * 4294967296 + (q + r) * 65536 + s) % 4294967296) := W_congr (by omega)
  refine ⟨hlow, ?_⟩
  rw [hlow]
  unfold IntOp.cmpi
  dsimp only
  rw [ult_W (by omega) (by omega), setWidth_ofBool_decide, addi_W]
  congr 1
  split <;> omega

/-- The reference's multiply is `a · b / 2^31` rounded to nearest, for either sign of `a`. -/
theorem rSrdhm_W {A M : ℤ} (hA : -1073741824 ≤ A ∧ A < 1073741824) (hM : 0 ≤ M ∧ M < 2147483648) :
    rSrdhm (W A) (W M) = W ((A * M + 1073741824) / 2147483648) := by
  have habs : 0 ≤ |A| ∧ |A| ≤ 1073741824 := by rcases abs_cases A with h | h <;> omega
  have hP := mul_bounds habs (y := M) (b := 2147483647) (by omega)
  have hAM : A * M = if A < 0 then -(|A| * M) else |A| * M := by
    split
    · next h => rw [abs_of_neg h]; ring
    · next h => rw [abs_of_nonneg (not_lt.mp h)]
  unfold rSrdhm rMag rNudge
  rw [absi_W (by omega), (rLow_rHigh_W habs hM).1, (rLow_rHigh_W habs hM).2, hAM]
  generalize |A| * M = P at *
  unfold IntOp.cmpi
  dsimp only
  rw [show (0#32 : BitVec 32) = W 0 from rfl, slt_W (by omega) (by omega),
    show (1073741823#32 : BitVec 32) = W 1073741823 from rfl, show (1073741824#32 : BitVec 32) = W 1073741824 from rfl]
  have key : ∀ c : ℤ, 0 ≤ c ∧ c ≤ 1073741824 →
      IntOp.ori
        (IntOp.shli .host
          (IntOp.addi (W (P / 4294967296))
            ((BitVec.ofBool ((IntOp.addi (W (P % 4294967296)) (W c)).ult (W (P % 4294967296)))).setWidth 32)) 1#32)
        (IntOp.shrui .host (IntOp.addi (W (P % 4294967296)) (W c)) 31#32) = W ((P + c) / 2147483648) := by
    intro c hc
    rw [addi_W, show W (P % 4294967296 + c) = W ((P % 4294967296 + c) % 4294967296) from W_congr (by omega),
      ult_W (by omega) (by omega), setWidth_ofBool_decide, addi_W, show (1#32 : BitVec 32) = W ((1 : ℕ) : ℤ) from rfl,
      shli_W _ (by decide), show (31#32 : BitVec 32) = W ((31 : ℕ) : ℤ) from rfl, shrui_W _ (by decide) (by omega), pow_one,
      ori_W (by split <;> omega) (by omega)]
    congr 1
    split <;> omega
  by_cases h : A < 0
  · simp only [h, decide_true, BitVec.ofBool_true, Scalar.select, ↓reduceIte]
    rw [key _ (by norm_num), neg_W]
    congr 1; omega
  · simp only [h, decide_false, BitVec.ofBool_false, Scalar.select, ↓reduceIte]
    rw [if_neg (by decide), if_neg (by decide), key _ (by norm_num)]

/-- The reference's rounding division, as an integer: the quotient, and one more past the threshold. -/
theorem rDiv_W {H : ℤ} {n : ℕ} (hn : n < 31) (hH : -1073741824 ≤ H ∧ H ≤ 1073741824) :
    rDiv (W H) (W (n + 1)) =
      W (H / (2 * 2 ^ n) + if 2 ^ n - 1 + (if H < 0 then 1 else 0) < H % (2 * 2 ^ n) then 1 else 0) := by
  unfold rDiv IntOp.cmpi
  have hp : (1 : ℤ) ≤ 2 ^ n := by exact_mod_cast Nat.one_le_two_pow (n := n)
  have hp2 : (2 : ℤ) ^ n ≤ 2 ^ 30 := by exact_mod_cast Nat.pow_le_pow_right (show 0 < 2 by norm_num) (show n ≤ 30 by omega)
  have hps : (2 : ℤ) ^ (n + 1) = 2 * 2 ^ n := by rw [pow_succ]; ring
  have hr0 : 0 ≤ H % (2 * 2 ^ n) := Int.emod_nonneg _ (by omega)
  have hr1 : H % (2 * 2 ^ n) < 2 * 2 ^ n := Int.emod_lt_of_pos _ (by omega)
  rw [show W ((n : ℤ) + 1) = W ((n + 1 : ℕ) : ℤ) by push_cast; rfl, shrsi_W _ (by omega) (by omega),
    show (1#32 : BitVec 32) = W ((1 : ℕ) : ℤ) from rfl, shli_W _ (by omega), subi_W,
    show ((1 : ℕ) : ℤ) * 2 ^ (n + 1) - ((1 : ℕ) : ℤ) = 2 ^ (n + 1) - 1 by push_cast; ring, andi_W (by omega),
    shrsi_W _ (by decide) (by rw [hps]; omega), show (0#32 : BitVec 32) = W 0 from rfl, hps]
  dsimp only
  rw [slt_W (by omega) (by omega), setWidth_ofBool_decide, addi_W, show ((2 : ℤ) * 2 ^ n - 1) / 2 ^ 1 = 2 ^ n - 1 by omega]
  generalize H % (2 * 2 ^ n) = r at *
  rw [slt_W (by split <;> omega) (by omega), setWidth_ofBool_decide, addi_W]

/-! ## The two bytes agree -/

/-- The kernel's shift by one less, plus one, halved, is the reference's rounding division. -/
theorem half_shift {H s D : ℤ} (hD : 1 ≤ D) (hs : (s = 0 ∧ 0 ≤ H) ∨ (s = -1 ∧ H ≤ 0)) :
    ((H + s) / D + 1) / 2 = H / (2 * D) + if D - 1 + (if H < 0 then 1 else 0) < H % (2 * D) then 1 else 0 := by
  have e := Int.mul_ediv_add_emod H (2 * D)
  have hr0 : 0 ≤ H % (2 * D) := Int.emod_nonneg _ (by omega)
  have hr1 : H % (2 * D) < 2 * D := Int.emod_lt_of_pos _ (by omega)
  have hz : H = 0 → H % (2 * D) = 0 := by rintro rfl; simp
  generalize H / (2 * D) = q at *
  generalize H % (2 * D) = r at *
  have e' : 2 * (D * q) + r = H := by rw [← e]; ring
  have uniq : ∀ k : ℤ, D * k ≤ H + s → H + s < D * k + D → (H + s) / D = k := by
    intro k h1 h2
    rw [Int.ediv_eq_iff_of_pos (by omega)]
    constructor
    · rw [mul_comm]; omega
    · rw [mul_comm k D]; omega
  rcases lt_trichotomy r (-s) with h | h | h
  · rw [uniq (2 * q - 1) (by rw [mul_sub, mul_left_comm]; omega) (by rw [mul_sub, mul_left_comm]; omega)]
    rw [if_neg (by split <;> omega)]; omega
  all_goals
    by_cases h2 : r + s < D
    · rw [uniq (2 * q) (by rw [mul_left_comm]; omega) (by rw [mul_left_comm]; omega)]
      rw [if_neg (by split <;> omega)]; omega
    · rw [uniq (2 * q + 1) (by rw [mul_add, mul_left_comm]; omega) (by rw [mul_add, mul_left_comm]; omega)]
      rw [if_pos (by split <;> omega)]; omega

/-- THE REQUANTISATION: for an accumulator below `2^30` in magnitude, a multiplier that is not negative, a shift from 1 to 31
    and a zero point of at most `2^30 - 2^8` in magnitude, the kernel's byte is the reference's. -/
theorem kOut_eq_rOut (y acc m0 sh : BitVec 32) (hA : -1073741824 ≤ acc.toInt ∧ acc.toInt < 1073741824)
    (hM : 0 ≤ m0.toInt) (hS : 1 ≤ sh.toInt ∧ sh.toInt ≤ 31) (hY : -1073741568 ≤ y.toInt ∧ y.toInt ≤ 1073741568) :
    kOut y acc m0 sh = rOut y acc m0 sh := by
  rw [← W_toInt y, ← W_toInt acc, ← W_toInt m0, ← W_toInt sh]
  have hM2 : m0.toInt < 2147483648 := by have := BitVec.toInt_lt (x := m0); norm_num at this; exact this
  obtain ⟨n, hn⟩ : ∃ n : ℕ, sh.toInt = n + 1 := ⟨(sh.toInt - 1).toNat, by omega⟩
  rw [hn]
  have hn' : n < 31 := by omega
  generalize acc.toInt = A at *
  generalize m0.toInt = M at *
  generalize y.toInt = Y at *
  have hH : -1073741824 ≤ (A * M + 1073741824) / 2147483648 ∧ (A * M + 1073741824) / 2147483648 ≤ 1073741824 := by
    have h1 := mul_bounds (x := A + 1073741824) (y := M) (a := 2147483647) (b := 2147483647) (by omega) (by omega)
    have h2 := mul_bounds (x := 1073741823 - A) (y := M) (a := 2147483647) (b := 2147483647) (by omega) (by omega)
    rw [add_mul] at h1; rw [sub_mul] at h2
    constructor <;> omega
  have hsgn : (A / 2147483648 = 0 ∧ 0 ≤ (A * M + 1073741824) / 2147483648)
      ∨ (A / 2147483648 = -1 ∧ (A * M + 1073741824) / 2147483648 ≤ 0) := by
    by_cases h : A < 0
    · right
      have : 0 ≤ -A * M := mul_nonneg (by omega) hM
      rw [neg_mul] at this
      omega
    · left
      have : 0 ≤ A * M := mul_nonneg (by omega) hM
      omega
  rw [kOut_W hA ⟨hM, hM2⟩ hn' hY hH]
  unfold rOut
  rw [rSrdhm_W hA ⟨hM, hM2⟩, rDiv_W hn' hH]
  have hp : (1 : ℤ) ≤ 2 ^ n := by exact_mod_cast Nat.one_le_two_pow (n := n)
  rw [← half_shift hp hsgn]
  generalize (A * M + 1073741824) / 2147483648 = H at *
  have ht : -1073741825 ≤ (H + A / 2147483648) / 2 ^ n ∧ (H + A / 2147483648) / 2 ^ n ≤ 1073741824 := by
    constructor
    · rw [Int.le_ediv_iff_mul_le (by omega)]; nlinarith [hH.1, hA.1, show -1 ≤ A / 2147483648 by omega]
    · apply Int.ediv_le_of_le_mul (by omega); nlinarith [hH.2, hA.2, show A / 2147483648 ≤ 0 by omega]
  generalize (H + A / 2147483648) / 2 ^ n = t at *
  rw [show (127#32 : BitVec 32) = W 127 from rfl, show (4294967168#32 : BitVec 32) = W (-128) from rfl, addi_W,
    maxsi_W (by omega) (by omega), minsi_W (by omega) (by omega)]
  congr 2
  omega

end Cert.Words
-- ==== Proof.Block.lean ====
/- What one grid point writes. The body treats its 1024 output columns in four groups of 256, with the same operations in
   each; `group` is those operations as one term. Read at an index, a group's byte is the requantisation `kOut` of the accumulator
   word `bias + Σ` of eight converted partial products (`group_apply`). -/
module

public import proofs.«01_k».proof.Proof.Requant
public import proofs.«01_k».proof.Proof.Gen.KernelIdeal.Skeleton
public import Idealize.ShloMosaic.Lib.Pipeline.Value
public import Idealize.ShloMosaic.Lib.Pointwise

@[expose] public section

set_option maxRecDepth 16384

noncomputable section

namespace Cert.KernelIdeal.Block

open Cert.KernelIdeal Cert.KernelIdeal.Gen Cert.Words Idealize.ShloMosaic Idealize.ShloMosaic.Tactic Idealize.SL.Sem

variable {F : FTy → Type} [FloatOps F]

/-- One partial product over 512 positions, converted to words. -/
def part (x : Vec F S128x512 .bf16) (w : Vec F S512x256 .i8) : IVec S128x256 32 :=
  fptosi 32 (matmul dot_S128x512_S512x256_S128x256_1_0_0_1_n_n none x (sitofp .bf16 w : FVec F S512x256 .bf16)
    (constant S128x256 .f32 0x00000000#32))

/-- The accumulator of one group: the bias of each column and the eight partial products, added left to right. -/
def accum (b : Vec F S1x256 .i32) (x : Fin 8 → Vec F S128x512 .bf16) (w : Fin 8 → Vec F S512x256 .i8) : IVec S128x256 32 :=
  addi (addi (addi (addi (addi (addi (addi (addi
    (broadcastTo S128x256 (shapeCast S1x256 (shapeCast S1x256 b shapeCasts_S1x256_S1x256) shapeCasts_S1x256_S1x256 : IVec S1x256 32)
      broadcasts_S1x256_S128x256)
    (part (x 0) (w 0))) (part (x 1) (w 1))) (part (x 2) (w 2))) (part (x 3) (w 3)))
    (part (x 4) (w 4))) (part (x 5) (w 5))) (part (x 6) (w 6))) (part (x 7) (w 7))

/-- The rounded high half of a group's accumulator times its multipliers. -/
def high (acc : IVec S128x256 32) (m0 : IVec S1x256 32) : IVec S128x256 32 :=
  addi
    (addi
      (muli (shrsi acc (broadcast S128x256 16#32))
        (broadcastTo S128x256 (shli (shrsi m0 (broadcast S1x256 16#32)) (broadcast S1x256 1#32)) broadcasts_S1x256_S128x256))
      (shrsi
        (addi
          (addi
            (addi
              (muli (andi acc (broadcast S128x256 65535#32))
                (broadcastTo S128x256 (shrsi m0 (broadcast S1x256 16#32)) broadcasts_S1x256_S128x256))
              (shrui
                (muli (andi acc (broadcast S128x256 65535#32))
                  (broadcastTo S128x256 (andi m0 (broadcast S1x256 65535#32)) broadcasts_S1x256_S128x256))
                (broadcast S128x256 16#32)))
            (broadcast S128x256 3221241856#32))
          (muli (shrsi acc (broadcast S128x256 16#32))
            (broadcastTo S128x256 (andi m0 (broadcast S1x256 65535#32)) broadcasts_S1x256_S128x256)))
        (broadcast S128x256 15#32)))
    (broadcast S128x256 32768#32)

/-- One group's bytes from its accumulator: the zero point, the multipliers and the shifts. -/
def requant (y : BitVec 32) (acc : IVec S128x256 32) (m0 sh : IVec S1x256 32) : IVec S128x256 8 :=
  trunci 8
    (shrsi
      (addi
        (minsi (broadcast S128x256 (Scalar.subi 254#32 (Scalar.muli 2#32 y)))
          (maxsi (broadcast S128x256 (Scalar.subi 4294967039#32 (Scalar.muli 2#32 y)))
            (shrsi (addi (high acc m0) (shrsi acc (broadcast S128x256 31#32)))
              (broadcastTo S128x256 (subi sh (broadcast S1x256 1#32)) broadcasts_S1x256_S128x256))))
        (broadcast S128x256 (Scalar.addi 1#32 (Scalar.muli 2#32 y))))
      (broadcast S128x256 1#32)) natLt_8_32

/-- One group's bytes from its loads. -/
def group (y : BitVec 32) (b m0 sh : Vec F S1x256 .i32) (x : Fin 8 → Vec F S128x512 .bf16) (w : Fin 8 → Vec F S512x256 .i8) :
    IVec S128x256 8 :=
  requant y (accum b x w) (shapeCast S1x256 m0 shapeCasts_S1x256_S1x256) (shapeCast S1x256 sh shapeCasts_S1x256_S1x256)

/-- A partial product of whole numbers is the word of its whole sum: no addition rounds, and the conversion is exact since the
    sum is small. -/
theorem part_word (x : Vec Ideal S128x512 .bf16) (w : Vec Ideal S512x256 .i8) (r : Fin 128) (j : Fin 256) (X V : Fin 512 → ℤ)
    (hx : ∀ k, x (ix2 r k) = (((X k : ℤ) : ℝ) : EReal)) (hw : ∀ k, BitVec.toInt (w (ix2 k j)) = V k)
    (hX : ∀ k, |X k| ≤ 255) (hV : ∀ k, |V k| ≤ 128) :
    part x w (ix2 r j) = W (∑ k, X k * V k) := by
  have hsum : |∑ k, X k * V k| ≤ 512 * (255 * 128) := by
    refine (Finset.abs_sum_le_sum_abs _ _).trans ((Finset.sum_le_card_nsmul _ _ (255 * 128) fun k _ => ?_).trans ?_)
    · rw [abs_mul]
      exact mul_le_mul (hX k) (hV k) (abs_nonneg _) (by norm_num)
    · simp
  have h := abs_le.1 hsum
  unfold part
  pointwise
  have e : (∑ k, x (ix2 r k) * (FloatOps.sitofp FTy.bf16 (w (ix2 k j)) : Ideal .bf16) : EReal)
      = (((∑ k, X k * V k : ℤ) : ℝ) : EReal) := by
    rw [Int.cast_sum, show ((((∑ k, ((X k * V k : ℤ) : ℝ)) : ℝ)) : EReal) = ∑ k, (((X k * V k : ℤ) : ℝ) : EReal) from
      map_sum (⟨⟨Real.toEReal, EReal.coe_zero⟩, EReal.coe_add⟩ : ℝ →+ EReal) _ _]
    refine Finset.sum_congr rfl fun k _ => ?_
    push_cast
    rw [hx, ← hw]
    rfl
  rw [e]
  change BitVec.ofInt 32 (Ideal.toIntClamped _ _ _) = _
  rw [Ideal.toIntClamped_coe]
  rw [Int.floor_intCast, Int.ceil_intCast, ite_self, min_eq_right (by norm_num; omega), max_eq_right (by norm_num; omega)]

/-- The accumulator of a group over whole numbers: the bias plus the word of the whole sum over all 4096 positions. -/
theorem accum_word (b : Vec Ideal S1x256 .i32) (x : Fin 8 → Vec Ideal S128x512 .bf16) (w : Fin 8 → Vec Ideal S512x256 .i8)
    (r : Fin 128) (j : Fin 256) (X V : Fin 8 → Fin 512 → ℤ)
    (hx : ∀ c k, x c (ix2 r k) = (((X c k : ℤ) : ℝ) : EReal)) (hw : ∀ c k, BitVec.toInt (w c (ix2 k j)) = V c k)
    (hX : ∀ c k, |X c k| ≤ 255) (hV : ∀ c k, |V c k| ≤ 128) :
    accum b x w (ix2 r j) = IntOp.addi (b (ix2 0 j)) (W (∑ c, ∑ k, X c k * V c k)) := by
  unfold accum
  pointwise
  simp only [fun c => part_word (x c) (w c) r j (X c) (V c) (hx c) (hw c) (hX c) (hV c), Fin.sum_univ_eight]
  rw [show (b (ix2 0 j) : BitVec 32) = W (b (ix2 0 j) : BitVec 32).toInt from (BitVec.ofInt_toInt).symm]
  simp only [addi_W]
  congr 1
  ring

/-- The requantisation at an index is the word's. -/
theorem requant_apply (y : BitVec 32) (acc : IVec S128x256 32) (m0 sh : IVec S1x256 32) (r : Fin 128) (j : Fin 256) :
    requant y acc m0 sh (ix2 r j) = kOut y (acc (ix2 r j)) (m0 (ix2 0 j)) (sh (ix2 0 j)) := by
  unfold requant high
  pointwise
  rfl

/-- A group's byte at an index. -/
theorem group_apply (y : BitVec 32) (b m0 sh : Vec Ideal S1x256 .i32) (x : Fin 8 → Vec Ideal S128x512 .bf16)
    (w : Fin 8 → Vec Ideal S512x256 .i8)
    (r : Fin 128) (j : Fin 256) (X V : Fin 8 → Fin 512 → ℤ)
    (hx : ∀ c k, x c (ix2 r k) = (((X c k : ℤ) : ℝ) : EReal)) (hw : ∀ c k, BitVec.toInt (w c (ix2 k j)) = V c k)
    (hX : ∀ c k, |X c k| ≤ 255) (hV : ∀ c k, |V c k| ≤ 128) :
    group y b m0 sh x w (ix2 r j)
      = kOut y (IntOp.addi (b (ix2 0 j)) (W (∑ c, ∑ k, X c k * V c k))) (m0 (ix2 0 j)) (sh (ix2 0 j)) := by
  unfold group
  rw [requant_apply, accum_word b x w r j X V hx hw hX hV, shapeCast_self, shapeCast_self]

end Cert.KernelIdeal.Block
-- ==== Proof.Pieces.lean ====
/- What a block of the output holds after the body: the four groups' stores tile it, so each of its bytes is the
   requantisation of the accumulator at its row and column. -/
module

public import proofs.«01_k».proof.Proof.Block
public import proofs.«01_k».proof.Proof.Gen.KernelIdeal.Frame
public import Idealize.ShloMosaic.Lib.Pipeline.ValueKit.Tiles

@[expose] public section

set_option maxRecDepth 16384

noncomputable section

namespace Cert.KernelIdeal.Block

open Cert.KernelIdeal Cert.KernelIdeal.Gen Cert.Words Idealize.ShloMosaic Idealize.ShloMosaic.TcCoe Idealize.ShloMosaic.Tactic Idealize.SL.Sem

variable {F : FTy → Type} [FloatOps F]

/-- A run of 512 positions lies within the rows. -/
theorem inb_rows (k : Fin 8) : ∀ a, (![0, 512 * k.val] : Fin 2 → ℕ) a + S128x512.size a ≤ S128x4096.size a := by
  revert k; decide

/-- A run of 512 positions of a group's columns lies within the weights' block. -/
theorem inb_cols (n : Fin 4) (k : Fin 8) :
    ∀ a, (![512 * k.val, 256 * n.val] : Fin 2 → ℕ) a + S512x256.size a ≤ S4096x1024.size a := by
  revert n k; decide

/-- A group's columns lie within a row vector's block. -/
theorem inb_strip (n : Fin 4) : ∀ a, (![0, 256 * n.val] : Fin 2 → ℕ) a + S1x256.size a ≤ S1x1024.size a := by
  revert n; decide

/-- A group's columns lie within the output's block. -/
theorem inb_piece (n : Fin 4) : ∀ a, (![0, 256 * n.val] : Fin 2 → ℕ) a + S128x256.size a ≤ S128x1024.size a := by
  revert n; decide

/-- The offset of a whole two-axis buffer is zero. -/
theorem zeros2 : (![0, 0] : Fin 2 → ℕ) = fun _ => 0 := by
  funext a; revert a; decide

/-- Positions `512 k` to `512 k + 511` of the rows. -/
def rows (x : Vec F S128x4096 .bf16) (k : Fin 8) : Vec F S128x512 .bf16 :=
  View.ld x (Rect.unit (s := S128x4096) ![0, 512 * k.val] S128x512.size (inb_rows k))

/-- The weights of positions `512 k` to `512 k + 511` and of group `n`'s columns. -/
def cols (w : Vec F S4096x1024 .i8) (n : Fin 4) (k : Fin 8) : Vec F S512x256 .i8 :=
  View.ld w (Rect.unit (s := S4096x1024) ![512 * k.val, 256 * n.val] S512x256.size (inb_cols n k))

/-- Group `n`'s columns of a row vector. -/
def strip (v : Vec F S1x1024 .i32) (n : Fin 4) : Vec F S1x256 .i32 :=
  View.ld v (Rect.unit (s := S1x1024) ![0, 256 * n.val] S1x256.size (inb_strip n))

/-- The bytes stored for group `n`. -/
def bytes (y : BitVec 32) (b m0 sh : Vec F S1x1024 .i32) (x : Vec F S128x4096 .bf16) (w : Vec F S4096x1024 .i8) (n : Fin 4) :
    IVec S128x256 8 :=
  group y (strip b n) (strip m0 n) (strip sh n) (rows x) (cols w n)

/-- The rectangle group `n` is stored to. -/
abbrev slab (n : Fin 4) : Rect S128x1024 := Rect.unit (s := S128x1024) ![0, 256 * n.val] S128x256.size (inb_piece n)

/-- A run of the rows at an index: the row at the position shifted by the run's start. -/
theorem rows_apply (x : Vec F S128x4096 .bf16) (c : Fin 8) (r : Fin 128) (k : Fin 512) :
    rows x c (ix2 r k) = x (ix2 r ⟨512 * c.val + k.val, by omega⟩) :=
  View.ld_unit_apply_of _ _ _ _ _ _ fun a => match a with
    | ⟨0, _⟩ => (Nat.zero_add _).symm
    | ⟨1, _⟩ => rfl

/-- A piece of the weights at an index: the weights at the shifted position and column. -/
theorem cols_apply (w : Vec F S4096x1024 .i8) (n : Fin 4) (c : Fin 8) (k : Fin 512) (j : Fin 256) :
    cols w n c (ix2 k j) = w (ix2 ⟨512 * c.val + k.val, by omega⟩ ⟨256 * n.val + j.val, by omega⟩) :=
  View.ld_unit_apply_of _ _ _ _ _ _ fun a => match a with
    | ⟨0, _⟩ => rfl
    | ⟨1, _⟩ => rfl

/-- A group's row vector at a column: the block's at the shifted column. -/
theorem strip_apply (v : Vec F S1x1024 .i32) (n : Fin 4) (j : Fin 256) :
    strip v n (ix2 0 j) = v (ix2 0 ⟨256 * n.val + j.val, by omega⟩) :=
  View.ld_unit_apply_of _ _ _ _ _ _ fun a => match a with
    | ⟨0, _⟩ => rfl
    | ⟨1, _⟩ => rfl

/-- The pieces a point stores, last first. -/
def pieces (y : BitVec 32) (b m0 sh : Vec F S1x1024 .i32) (x : Vec F S128x4096 .bf16) (w : Vec F S4096x1024 .i8) :
    List (View.Piece (Elt F) S128x1024 .i8) :=
  [⟨slab 3, bytes y b m0 sh x w 3⟩, ⟨slab 2, bytes y b m0 sh x w 2⟩, ⟨slab 1, bytes y b m0 sh x w 1⟩, ⟨slab 0, bytes y b m0 sh x w 0⟩]

/-- The four groups' slabs cover the block. -/
theorem cover_pieces (y : BitVec 32) (b m0 sh : Vec F S1x1024 .i32) (x : Vec F S128x4096 .bf16) (w : Vec F S4096x1024 .i8)
    (i : S128x1024.Idx) : ∃ p ∈ pieces y b m0 sh x w, i ∈ p.1.set :=
  View.cover_of_tiled (pieces y b m0 sh x w) S128x256.size rfl i

/-- A load of any part of a buffer that one store filled whole is a load of what was stored. -/
theorem readCov_whole {κ : Kind} {sp : Space} (v : View sig κ sp S128x4096 .bf16) (P : Vec F S128x4096 .bf16) (r : Rect S128x4096) :
    v.readCov [(⟨Rect.unit (s := S128x4096) (no_index ![0, 0]) (no_index S128x4096.size) inb_S128x4096_S128x4096_0_0, P⟩ :
        View.Piece (Elt F) S128x4096 .bf16)]
      r.toLoadRect = View.ld P r := by
  rw [View.readCov_eq_canon', View.canon_unit_zero (S := S128x4096) zeros2]

/-- The first of the two zero points. -/
def zpX (x0 : Vec F S2 .i32) : BitVec 32 :=
  View.ld x0 (Rect.unit (s := S2) ![0] S1.size inb_S2_S1_0) (Shape.Idx.first (by decide))

/-- The second of the two zero points. -/
def zpY (x0 : Vec F S2 .i32) : BitVec 32 :=
  View.ld x0 (Rect.unit (s := S2) ![1] S1.size inb_S2_S1_1) (Shape.Idx.first (by decide))

/-- What the first point leaves in the carried rows: the input less the first zero point. -/
theorem sout_A (c : Dev nD)
    (i : grid0.Coords)
    (arg1 : Memref sig .tc .smem S2 .i32) (harg1 : arg1.IsWhole)
    (arg2 : Memref sig .tc .vmem S128x4096 .i8) (harg2 : arg2.IsWhole)
    (arg3 : Memref sig .tc .vmem S4096x1024 .i8) (harg3 : arg3.IsWhole)
    (arg4 : Memref sig .tc .vmem S1x1024 .i32) (harg4 : arg4.IsWhole)
    (arg5 : Memref sig .tc .vmem S1x1024 .i32) (harg5 : arg5.IsWhole)
    (arg6 : Memref sig .tc .vmem S1x1024 .i32) (harg6 : arg6.IsWhole)
    (arg7 : Memref sig .tc .vmem S128x1024 .i8) (harg7 : arg7.IsWhole)
    (arg8 : Memref sig .tc .vmem S128x4096 .bf16) (harg8 : arg8.IsWhole) (hc0 : cond0_0 i)
    (x0 : Vec F S2 .i32) (x1 : Vec F S128x4096 .i8) (x2 : Vec F S4096x1024 .i8) (x3 x4 x5 : Vec F S1x1024 .i32) :
    sout0_A_0 c i arg1 harg1 arg2 harg2 arg3 harg3 arg4 harg4 arg5 harg5 arg6 harg6 arg7 harg7 arg8 harg8 hc0 x0 x1 x2 x3 x4 x5 = k0_pay2 (zpX x0) x1 := by
  unfold sout0_A_0
  rw [View.read_writes_junk_eq_canon]
  unfold kernelRun0_A
  dsimp only
  sl_unfold_words
  simp only [View.readAt_eq_ld, harg1.read_unread, harg2.read_unread]
  rw [View.canon_unit_zero (S := S128x4096) zeros2, View.ld_unit_zero (S := S128x4096) zeros2]
  rfl

/-- What the first point leaves in its output block: the four groups, over the rows it has just centred. -/
theorem out_A (c : Dev nD)
    (i : grid0.Coords)
    (arg1 : Memref sig .tc .smem S2 .i32) (harg1 : arg1.IsWhole)
    (arg2 : Memref sig .tc .vmem S128x4096 .i8) (harg2 : arg2.IsWhole)
    (arg3 : Memref sig .tc .vmem S4096x1024 .i8) (harg3 : arg3.IsWhole)
    (arg4 : Memref sig .tc .vmem S1x1024 .i32) (harg4 : arg4.IsWhole)
    (arg5 : Memref sig .tc .vmem S1x1024 .i32) (harg5 : arg5.IsWhole)
    (arg6 : Memref sig .tc .vmem S1x1024 .i32) (harg6 : arg6.IsWhole)
    (arg7 : Memref sig .tc .vmem S128x1024 .i8) (harg7 : arg7.IsWhole)
    (arg8 : Memref sig .tc .vmem S128x4096 .bf16) (harg8 : arg8.IsWhole) (hc0 : cond0_0 i)
    (x0 : Vec F S2 .i32) (x1 : Vec F S128x4096 .i8) (x2 : Vec F S4096x1024 .i8) (x3 x4 x5 : Vec F S1x1024 .i32) :
    out0_A_6 c i arg1 harg1 arg2 harg2 arg3 harg3 arg4 harg4 arg5 harg5 arg6 harg6 arg7 harg7 arg8 harg8 hc0 x0 x1 x2 x3 x4 x5
      = View.canon (pieces (zpY x0) x3 x4 x5 (k0_pay2 (zpX x0) x1) x2) := by
  unfold out0_A_6
  rw [View.read_writes_junk_eq_canon]
  unfold kernelRun0_A
  dsimp only
  sl_unfold_words
  simp only [View.readAt_eq_ld, harg1.read_unread, harg2.read_unread, harg3.read_unread, harg4.read_unread, harg5.read_unread,
    harg6.read_unread, readCov_whole]
  rw [View.ld_unit_zero (S := S128x4096) zeros2]
  rfl

/-- What a later point leaves in its output block: the four groups, over the rows carried to it. -/
theorem out_B (c : Dev nD)
    (i : grid0.Coords)
    (arg1 : Memref sig .tc .smem S2 .i32) (harg1 : arg1.IsWhole)
    (arg2 : Memref sig .tc .vmem S128x4096 .i8) (harg2 : arg2.IsWhole)
    (arg3 : Memref sig .tc .vmem S4096x1024 .i8) (harg3 : arg3.IsWhole)
    (arg4 : Memref sig .tc .vmem S1x1024 .i32) (harg4 : arg4.IsWhole)
    (arg5 : Memref sig .tc .vmem S1x1024 .i32) (harg5 : arg5.IsWhole)
    (arg6 : Memref sig .tc .vmem S1x1024 .i32) (harg6 : arg6.IsWhole)
    (arg7 : Memref sig .tc .vmem S128x1024 .i8) (harg7 : arg7.IsWhole)
    (arg8 : Memref sig .tc .vmem S128x4096 .bf16) (harg8 : arg8.IsWhole) (hc0 : ¬cond0_0 i)
    (x0 : Vec F S2 .i32) (x1 : Vec F S128x4096 .i8) (x2 : Vec F S4096x1024 .i8) (x3 x4 x5 : Vec F S1x1024 .i32)
    (xs0 : Vec F S128x4096 .bf16) :
    out0_B_6 c i arg1 harg1 arg2 harg2 arg3 harg3 arg4 harg4 arg5 harg5 arg6 harg6 arg7 harg7 arg8 harg8 hc0 x0 x1 x2 x3 x4 x5 xs0
      = View.canon (pieces (zpY x0) x3 x4 x5 xs0 x2) := by
  unfold out0_B_6
  rw [View.read_writes_junk_eq_canon]
  unfold kernelRun0_B
  dsimp only
  sl_unfold_words
  simp only [View.readAt_eq_ld, harg1.read_unread, harg2.read_unread, harg3.read_unread, harg4.read_unread, harg5.read_unread,
    harg6.read_unread, harg8.read_unread]
  rfl

/-! ## The values -/

/-- The centred rows at an index: the difference of two whole numbers. -/
theorem centred_apply (z : BitVec 32) (x1 : Vec Ideal S128x4096 .i8) (r : Fin 128) (k : Fin 4096) :
    k0_pay2 (F := Ideal) z x1 (ix2 r k) = (((BitVec.toInt (x1 (ix2 r k)) - z.toInt : ℤ) : ℝ) : EReal) := by
  unfold k0_pay2
  pointwise
  rw [Int.cast_sub, EReal.coe_sub]
  rfl

/-- Summing 4096 positions is summing eight runs of 512. -/
theorem sum_split (f : Fin 4096 → ℤ) :
    ∑ k, f k = ∑ c : Fin 8, ∑ k : Fin 512, f ⟨512 * c.val + k.val, by omega⟩ := by
  rw [← Fintype.sum_prod_type']
  refine (Fintype.sum_equiv (finProdFinEquiv (m := 8) (n := 512)) _ _ fun p => ?_).symm
  refine congrArg f (Fin.ext ?_)
  show 512 * p.1.val + p.2.val = p.2.val + 512 * p.1.val
  omega

/-- One output byte of a block: the requantisation of the bias plus the word of the whole sum of 4096 products. -/
def byteAt (y b m0 sh : BitVec 32) (X V : Fin 4096 → ℤ) : BitVec 8 :=
  kOut y (IntOp.addi b (W (∑ k, X k * V k))) m0 sh

/-- A signed byte is at most 128 in magnitude. -/
theorem abs_le_byte (b : BitVec 8) : |b.toInt| ≤ 128 := by
  have h1 := b.le_toInt
  have h2 := b.toInt_lt
  rw [abs_le]; norm_num at h1 h2; omega

/-- A block's byte at an index, from the whole numbers its carried rows hold. -/
theorem canon_pieces (y : BitVec 32) (b m0 sh : Vec Ideal S1x1024 .i32) (x : Vec Ideal S128x4096 .bf16)
    (w : Vec Ideal S4096x1024 .i8) (X : Fin 128 → Fin 4096 → ℤ)
    (hx : ∀ r k, x (ix2 r k) = (((X r k : ℤ) : ℝ) : EReal)) (hX : ∀ r k, |X r k| ≤ 255) (i : S128x1024.Idx) :
    View.canon (pieces y b m0 sh x w) i
      = byteAt y (b (ix2 0 (i 1))) (m0 (ix2 0 (i 1))) (sh (ix2 0 (i 1))) (X (i 0)) (fun k => BitVec.toInt (w (ix2 k (i 1)))) := by
  have key : ∀ (n : Fin 4) (q : (slab n).shape.Idx), bytes y b m0 sh x w n q
      = (fun i : S128x1024.Idx => byteAt y (b (ix2 0 (i 1))) (m0 (ix2 0 (i 1))) (sh (ix2 0 (i 1))) (X (i 0))
          (fun k => BitVec.toInt (w (ix2 k (i 1))))) ((slab n).emb q) := by
    intro n q
    obtain ⟨r, j, rfl⟩ : ∃ (r : Fin 128) (j : Fin 256), q = ix2 r j := ⟨q 0, q 1, (ix2_eta q).symm⟩
    have e : (slab n).emb (ix2 r j) = (ix2 r ⟨256 * n.val + j.val, by omega⟩ : S128x1024.Idx) := by
      funext a; apply Fin.ext
      match a with
      | ⟨0, _⟩ => show 0 + 1 * r.val = r.val; omega
      | ⟨1, _⟩ => show 256 * n.val + 1 * j.val = 256 * n.val + j.val; omega
    unfold bytes
    refine (group_apply y _ _ _ _ _ r j (fun c k => X r ⟨512 * c.val + k.val, by omega⟩)
      (fun c k => BitVec.toInt (w (ix2 ⟨512 * c.val + k.val, by omega⟩ ⟨256 * n.val + j.val, by omega⟩))) ?_ ?_ ?_ ?_).trans ?_
    · exact fun c k => (rows_apply x c r k).trans (hx _ _)
    · exact fun c k => congrArg BitVec.toInt (cols_apply w n c k j)
    · exact fun c k => hX _ _
    · exact fun c k => abs_le_byte _
    · rw [e, strip_apply, strip_apply, strip_apply]
      show _ = kOut y (IntOp.addi _ (W (∑ k, _))) _ _
      rw [sum_split]
      rfl
  refine View.canon_apply_of_pieces (fun i : S128x1024.Idx => byteAt y (b (ix2 0 (i 1))) (m0 (ix2 0 (i 1))) (sh (ix2 0 (i 1)))
    (X (i 0)) (fun k => BitVec.toInt (w (ix2 k (i 1))))) _ ?_ i (cover_pieces y b m0 sh x w i)
  unfold pieces
  simp only [List.forall_mem_cons, List.not_mem_nil, false_implies, implies_true, and_true]
  exact ⟨key 3, key 2, key 1, key 0⟩

end Cert.KernelIdeal.Block
-- ==== Proof.Array.lean ====
/- What the result array holds. Each of the 14 points reads its own 1024 columns of the weights and of the three column
   vectors, and the whole of the two zero points and of the input; the rows it multiplies are the ones the first point
   centred and every later point found in the carried buffer (`carried`). So each point writes its 1024 columns of one
   array `result`, and the 14 blocks cover it (`final`). -/
module

public import proofs.«01_k».proof.Proof.Pieces

@[expose] public section

set_option maxRecDepth 16384

noncomputable section

namespace Cert.KernelIdeal.Array

open Cert.KernelIdeal Cert.KernelIdeal.Gen Cert.KernelIdeal.Block Cert.Words
open Idealize.ShloMosaic Idealize.ShloMosaic.TcCoe Idealize.ShloMosaic.Tactic Idealize.SL.Sem

/-! ## The windows' blocks -/

section Blocks

variable {F : FTy → Type} [FloatOps F] (m : (ℓ : Loc nD τ sig) → Buf (Elt F) ℓ) (c : Dev nD) (t : Fin cfg0.N)

/-- Grid point `t` reads the weights' columns from block `t`. -/
theorem index2 : ∀ t : Fin grid0.N, win0_2.index t 0 = 0 ∧ win0_2.index t 1 = t.val := by decide +kernel
/-- Grid point `t` reads block `t` of the bias. -/
theorem index3 : ∀ t : Fin grid0.N, win0_3.index t 0 = 0 ∧ win0_3.index t 1 = t.val := by decide +kernel
/-- Grid point `t` reads block `t` of the multipliers. -/
theorem index4 : ∀ t : Fin grid0.N, win0_4.index t 0 = 0 ∧ win0_4.index t 1 = t.val := by decide +kernel
/-- Grid point `t` reads block `t` of the shifts. -/
theorem index5 : ∀ t : Fin grid0.N, win0_5.index t 0 = 0 ∧ win0_5.index t 1 = t.val := by decide +kernel
/-- Grid point `t` writes block `t` of the result. -/
theorem index6 : ∀ t : Fin grid0.N, win0_6.index t 0 = 0 ∧ win0_6.index t 1 = t.val := by decide +kernel

/-- A block's column is a column of the array. -/
theorem col_lt (t : Fin cfg0.N) (j : Fin 1024) : 1024 * t.val + j.val < 14336 := by
  have : t.val < 14 := lt_of_lt_of_eq t.isLt (show cfg0.N = 14 from N_0)
  omega

/-- Column `j` of point `t`'s block, as a column of the whole array. -/
def col (t : Fin cfg0.N) (j : Fin 1024) : Fin 14336 := ⟨1024 * t.val + j.val, col_lt t j⟩

/-- Every point reads both zero points, -/
theorem iblk0 : (iblk m c 0 t : Vec F S2 .i32) = V m c main_v4 := by
  funext i
  unfold iblk
  rw [View.read_apply]
  show V m c main_v4 _ = V m c main_v4 _
  congr 1
  funext a; apply Fin.ext
  match a with
  | ⟨0, _⟩ => show 0 * 2 + 1 * (i 0).val = (i 0).val; omega

/-- and the whole input. -/
theorem iblk1 : (iblk m c 1 t : Vec F S128x4096 .i8) = V m c main_v5 := by
  funext i
  unfold iblk
  rw [View.read_apply]
  show V m c main_v5 _ = V m c main_v5 _
  congr 1
  funext a; apply Fin.ext
  match a with
  | ⟨0, _⟩ => show 0 * 128 + 1 * (i 0).val = (i 0).val; omega
  | ⟨1, _⟩ => show 0 * 4096 + 1 * (i 1).val = (i 1).val; omega

/-- Point `t` reads its 1024 columns of the weights, -/
theorem iblk2 (k : Fin 4096) (j : Fin 1024) :
    (iblk m c 2 t : Vec F S4096x1024 .i8) (ix2 k j) = (V m c main_arg2 : Vec F S4096x14336 .i8) (ix2 k (col t j)) := by
  unfold iblk
  rw [View.read_apply]
  show V m c main_arg2 _ = V m c main_arg2 _
  congr 1
  funext a; apply Fin.ext
  match a with
  | ⟨0, _⟩ => show win0_2.index t 0 * 4096 + 1 * k.val = k.val; rw [(index2 t).1]; omega
  | ⟨1, _⟩ => show win0_2.index t 1 * 1024 + 1 * j.val = 1024 * t.val + j.val; rw [(index2 t).2]; omega

/-- of the bias, -/
theorem iblk3 (j : Fin 1024) :
    (iblk m c 3 t : Vec F S1x1024 .i32) (ix2 0 j) = (V m c main_v6 : Vec F S1x14336 .i32) (ix2 0 (col t j)) := by
  unfold iblk
  rw [View.read_apply]
  show V m c main_v6 _ = V m c main_v6 _
  congr 1
  funext a; apply Fin.ext
  match a with
  | ⟨0, _⟩ => show win0_3.index t 0 * 1 + 1 * 0 = 0; rw [(index3 t).1]
  | ⟨1, _⟩ => show win0_3.index t 1 * 1024 + 1 * j.val = 1024 * t.val + j.val; rw [(index3 t).2]; omega

/-- of the multipliers, -/
theorem iblk4 (j : Fin 1024) :
    (iblk m c 4 t : Vec F S1x1024 .i32) (ix2 0 j) = (V m c main_v7 : Vec F S1x14336 .i32) (ix2 0 (col t j)) := by
  unfold iblk
  rw [View.read_apply]
  show V m c main_v7 _ = V m c main_v7 _
  congr 1
  funext a; apply Fin.ext
  match a with
  | ⟨0, _⟩ => show win0_4.index t 0 * 1 + 1 * 0 = 0; rw [(index4 t).1]
  | ⟨1, _⟩ => show win0_4.index t 1 * 1024 + 1 * j.val = 1024 * t.val + j.val; rw [(index4 t).2]; omega

/-- and of the shifts. -/
theorem iblk5 (j : Fin 1024) :
    (iblk m c 5 t : Vec F S1x1024 .i32) (ix2 0 j) = (V m c main_v8 : Vec F S1x14336 .i32) (ix2 0 (col t j)) := by
  unfold iblk
  rw [View.read_apply]
  show V m c main_v8 _ = V m c main_v8 _
  congr 1
  funext a; apply Fin.ext
  match a with
  | ⟨0, _⟩ => show win0_5.index t 0 * 1 + 1 * 0 = 0; rw [(index5 t).1]
  | ⟨1, _⟩ => show win0_5.index t 1 * 1024 + 1 * j.val = 1024 * t.val + j.val; rw [(index5 t).2]; omega

/-! ## What each point leaves -/

/-- The centred rows: what the first point stores in the carried buffer. -/
abbrev centred : Vec F S128x4096 .bf16 := k0_pay2 (zpX (V m c main_v4)) (V m c main_v5)

/-- After every point the carried buffer holds the centred rows. -/
theorem carried : ∀ (n : ℕ) (h : n < cfg0.N), (outsAt0 m c n h).2 = centred m c
  | 0, h => by
    rw [show outsAt0 m c 0 h = _ from outsAt0_A m c ⟨0, h⟩ rfl]
    dsimp only
    rw [sout_A, iblk0, iblk1]
  | n + 1, h => by
    have hN : cfg0.N = 14 := N_0
    have hB : ¬(⟨n + 1, h⟩ : Fin cfg0.N).val % 14 = 0 := by dsimp only; omega
    rw [show outsAt0 m c (n + 1) h = _ from outsAt0_B m c ⟨n + 1, h⟩ hB]
    exact carried n _

/-- Every point leaves, in its output block, the four groups over the centred rows and its own columns. -/
theorem left : (outsAt0 m c t.val t.isLt).1 = View.canon (pieces (zpY (V m c main_v4))
    (iblk m c 3 t : Vec F S1x1024 .i32) (iblk m c 4 t : Vec F S1x1024 .i32) (iblk m c 5 t : Vec F S1x1024 .i32)
    (centred m c) (iblk m c 2 t : Vec F S4096x1024 .i8)) := by
  by_cases h : t.val % 14 = 0
  · rw [outsAt0_A m c t h]
    dsimp only
    rw [out_A, iblk0, iblk1]
  · rw [outsAt0_B m c t h]
    dsimp only
    rw [out_B, iblk0, carried]

end Blocks

/-! ## The array -/

variable (m : (ℓ : Loc nD τ sig) → Buf (Elt Ideal) ℓ) (c : Dev nD)

/-- The result at an index: the byte of its row and its column. -/
def result : Vec Ideal S128x14336 .i8 := fun i =>
  byteAt (zpY (V m c main_v4)) ((V m c main_v6 : Vec Ideal S1x14336 .i32) (ix2 0 (i 1)))
    ((V m c main_v7 : Vec Ideal S1x14336 .i32) (ix2 0 (i 1))) ((V m c main_v8 : Vec Ideal S1x14336 .i32) (ix2 0 (i 1)))
    (fun k => BitVec.toInt ((V m c main_v5 : Vec Ideal S128x4096 .i8) (ix2 (i 0) k)) - BitVec.toInt (zpX (V m c main_v4)))
    (fun k => BitVec.toInt ((V m c main_arg2 : Vec Ideal S4096x14336 .i8) (ix2 k (i 1))))

/-- What a point leaves, at an index of its block, is the result at that index of the array. The first zero point is a byte
    (`hz`), so the centred rows are small whole numbers. -/
theorem left_apply (hz : -128 ≤ BitVec.toInt (zpX (V m c main_v4)) ∧ BitVec.toInt (zpX (V m c main_v4)) ≤ 127)
    (t : Fin cfg0.N) (r : Fin 128) (j : Fin 1024) :
    (outsAt0 m c t.val t.isLt).1 (ix2 r j) = result m c (ix2 r (col t j)) := by
  rw [left m c t]
  refine (canon_pieces _ _ _ _ _ _ (fun r k => BitVec.toInt ((V m c main_v5 : Vec Ideal S128x4096 .i8) (ix2 r k))
    - BitVec.toInt (zpX (V m c main_v4))) (fun r k => centred_apply _ _ r k) ?_ (ix2 r j)).trans ?_
  · intro r k
    have h := abs_le.1 (abs_le_byte ((V m c main_v5 : Vec Ideal S128x4096 .i8) (ix2 r k)))
    have h' := BitVec.toInt_lt (x := (V m c main_v5 : Vec Ideal S128x4096 .i8) (ix2 r k))
    rw [abs_le]; norm_num at h'; constructor <;> omega
  · simp only [ix2_0, ix2_1]
    unfold result
    rw [iblk3, iblk4, iblk5]
    simp only [iblk2]
    rfl

/-- What point `t` writes back is its block of the result. -/
theorem flushed_eq (hz : -128 ≤ BitVec.toInt (zpX (V m c main_v4)) ∧ BitVec.toInt (zpX (V m c main_v4)) ≤ 127)
    (t : Fin cfg0.N) (_ : (cfg0.win 6).flush t = true) :
    (dats m 0 c).flushed 6 t
      = ((cfg0.win 6).blk t).view.read (Elt Ideal) (result m c : Buf (Elt Ideal) ((c : Thread nD τ).loc main_v9)) := by
  show (cfg0.win 6).cut (grid0.coords t) ((dats m 0 c).after 6 t) = _
  rw [after0_6]
  funext i
  rw [View.read_apply]
  show (outsAt0 m c t.val t.isLt).1 _ = result m c _
  refine (congrArg (outsAt0 m c t.val t.isLt).1 (eq_ix2 (n0 := 128) (n1 := 1024) _)).trans ((left_apply m c hz t _ _).trans ?_)
  refine congrArg (result m c) (funext fun a => Fin.ext ?_)
  match a with
  | ⟨0, _⟩ => show (i 0).val = win0_6.index t 0 * 128 + 1 * (i 0).val; rw [(index6 t).1]; omega
  | ⟨1, _⟩ => show 1024 * t.val + (i 1).val = win0_6.index t 1 * 1024 + 1 * (i 1).val; rw [(index6 t).2]; omega

/-- The 14 blocks cover the array, so it ends holding the result. -/
theorem final (hz : -128 ≤ BitVec.toInt (zpX (V m c main_v4)) ∧ BitVec.toInt (zpX (V m c main_v4)) ≤ 127) :
    (dats m 0 c).arrAt 6 cfg0.N = result m c :=
  (dats m 0 c).arrAt_eq_of_cover 6 (result m c) (flushed_eq m c hz) fun i => by
    have h0 : (i 0 : Nat) < 128 := (i 0).isLt
    have h1 : (i 1 : Nat) < 14336 := (i 1).isLt
    let t : Fin cfg0.N := ⟨(i 1 : Nat) / 1024, by rw [show cfg0.N = 14 from N_0]; omega⟩
    refine ⟨t, flush0_6 t, ?_⟩
    show i ∈ ((View.whole main_v9).slice (win0_6.rect t)).set
    rw [View.set_slice_whole, Rect.mem_set_unit]
    intro a
    match a with
    | ⟨0, _⟩ =>
      show win0_6.index t 0 * 128 ≤ (i 0 : Nat) ∧ (i 0 : Nat) < win0_6.index t 0 * 128 + 128
      rw [(index6 t).1]; omega
    | ⟨1, _⟩ =>
      show win0_6.index t 1 * 1024 ≤ (i 1 : Nat) ∧ (i 1 : Nat) < win0_6.index t 1 * 1024 + 1024
      rw [(index6 t).2]; show (i 1 : Nat) / 1024 * 1024 ≤ _ ∧ _ < (i 1 : Nat) / 1024 * 1024 + 1024; omega

end Cert.KernelIdeal.Array
-- ==== Proof.KernelRun.lean ====
/- What the kernel's program computes, read from its arguments: the host operations before the region name the two zero
   points and reshape the input and the three column vectors, the one after it reshapes the result. -/
module

public import proofs.«01_k».proof.Proof.Array
public import Idealize.ShloMosaic.Lib.StableHlo.Run

@[expose] public section

set_option maxRecDepth 16384

noncomputable section

namespace Cert.KernelIdeal.Array

open Cert.KernelIdeal Cert.KernelIdeal.Gen Cert.KernelIdeal.Block Cert.Words
open Idealize.ShloMosaic Idealize.ShloMosaic.TcCoe Idealize.ShloMosaic.Tactic Idealize.SL.Sem

variable (m : (ℓ : Loc nD τ sig) → Buf (Elt Ideal) ℓ) (ρ : Dev nD → PrngReg) (c : Dev nD)

/-! ## The arguments -/

/-- The input. -/
abbrev aX : Vec Ideal S1x128x4096 .i8 := m ((c.tc : Thread nD τ).loc main_arg0)
/-- The input's zero point. -/
abbrev aXz : Vec Ideal S_ .i32 := m ((c.tc : Thread nD τ).loc main_arg1)
/-- The weights. -/
abbrev aW : Vec Ideal S4096x14336 .i8 := m ((c.tc : Thread nD τ).loc main_arg2)
/-- The bias. -/
abbrev aB : Vec Ideal S14336 .i32 := m ((c.tc : Thread nD τ).loc main_arg3)
/-- The multipliers. -/
abbrev aM : Vec Ideal S14336 .i32 := m ((c.tc : Thread nD τ).loc main_arg4)
/-- The shifts. -/
abbrev aS : Vec Ideal S14336 .i32 := m ((c.tc : Thread nD τ).loc main_arg5)
/-- The output's zero point. -/
abbrev aYz : Vec Ideal S_ .i32 := m ((c.tc : Thread nD τ).loc main_arg6)

/-! ## Before the region -/

/-- The pair of zero points that the region is given: the input's low byte, sign-extended, and the output's. -/
theorem V_v4 : (V m c main_v4 : Vec Ideal S2 .i32) =
    concatenate S2 0 [⟨S1, broadcastInDim S1 ![] bcast_S_S1 (extsi 32 (trunci 8 (aXz m c) natLt_8_32) natLt_8_32)⟩,
      ⟨S1, broadcastInDim S1 ![] bcast_S_S1 (aYz m c)⟩] concatenates_S1_S1_S2_d0 := by
  show StableHlo.after hostOps0 (fun b => m (c, b)) (Proc.devRef .tc main_v4) = _
  unfold hostOps0
  after_results

/-- The region's input is the argument with its leading axis dropped. -/
theorem V_v5 : (V m c main_v5 : Vec Ideal S128x4096 .i8) = shapeCast S128x4096 (aX m c) shapeCasts_S1x128x4096_S128x4096 := by
  show StableHlo.after hostOps0 (fun b => m (c, b)) (Proc.devRef .tc main_v5) = _
  unfold hostOps0
  after_results
  rfl

/-- The region's bias is the argument as one row. -/
theorem V_v6 : (V m c main_v6 : Vec Ideal S1x14336 .i32) = shapeCast S1x14336 (aB m c) shapeCasts_S14336_S1x14336 := by
  show StableHlo.after hostOps0 (fun b => m (c, b)) (Proc.devRef .tc main_v6) = _
  unfold hostOps0
  after_results
  rfl

/-- The region's multipliers are the argument as one row. -/
theorem V_v7 : (V m c main_v7 : Vec Ideal S1x14336 .i32) = shapeCast S1x14336 (aM m c) shapeCasts_S14336_S1x14336 := by
  show StableHlo.after hostOps0 (fun b => m (c, b)) (Proc.devRef .tc main_v7) = _
  unfold hostOps0
  after_results
  rfl

/-- The region's shifts are the argument as one row. -/
theorem V_v8 : (V m c main_v8 : Vec Ideal S1x14336 .i32) = shapeCast S1x14336 (aS m c) shapeCasts_S14336_S1x14336 := by
  show StableHlo.after hostOps0 (fun b => m (c, b)) (Proc.devRef .tc main_v8) = _
  unfold hostOps0
  after_results
  rfl

/-- The zero point the body subtracts is the low byte of the argument, sign-extended. -/
theorem zpX_eq : zpX (V m c main_v4 : Vec Ideal S2 .i32) = ((aXz m c ix0).setWidth 8).signExtend 32 := by
  rw [V_v4]
  unfold zpX
  rw [View.ld_unit_apply_of _ _ _ _ _ (ix1 0 : S2.Idx) (by intro a; fin_cases a; rfl)]
  pointwise

/-- The output zero point the body reads is the argument. -/
theorem zpY_eq : zpY (V m c main_v4 : Vec Ideal S2 .i32) = aYz m c ix0 := by
  rw [V_v4]
  unfold zpY
  rw [View.ld_unit_apply_of _ _ _ _ _ (ix1 1 : S2.Idx) (by intro a; fin_cases a; rfl)]
  pointwise

/-- The kernel's byte at a row and a column, from the arguments. -/
def outByte (r : Fin 128) (j : Fin 14336) : BitVec 8 :=
  byteAt (aYz m c ix0) (aB m c (ix1 j)) (aM m c (ix1 j)) (aS m c (ix1 j))
    (fun k => BitVec.toInt (aX m c (ix3 0 r k)) - (((aXz m c ix0 : BitVec 32).setWidth 8).signExtend 32).toInt)
    (fun k => BitVec.toInt (aW m c (ix2 k j)))

/-- The region's result array holds `outByte` at every row and column. -/
theorem result_eq (r : Fin 128) (j : Fin 14336) : result m c (ix2 r j) = outByte m c r j := by
  unfold result outByte
  rw [zpX_eq, zpY_eq, V_v5, V_v6, V_v7, V_v8, V_main_arg2]
  pointwise

/-- The zero point the body subtracts is in the range of a byte. -/
theorem zp_byte : -128 ≤ BitVec.toInt (zpX (V m c main_v4 : Vec Ideal S2 .i32)) ∧ BitVec.toInt (zpX (V m c main_v4 : Vec Ideal S2 .i32)) ≤ 127 := by
  rw [zpX_eq, BitVec.toInt_signExtend_of_le (by decide)]
  generalize BitVec.setWidth 8 (aXz m c ix0 : BitVec 32) = b
  have h1 := b.le_toInt
  have h2 := b.toInt_lt
  norm_num at h1 h2
  constructor <;> omega

/-! ## After the region -/

/-- After the region the program's result is the region's result array, reshaped. -/
theorem tail : (Pipeline.afterTail₀ cfgs (dats m) 0 (V0 m) [hostOps1] c main_v10 : Vec Ideal S1x128x14336 .i8)
    = shapeCast S1x128x14336 (result m c) shapeCasts_S128x14336_S1x128x14336 := by
  unfold Pipeline.afterTail₀
  show StableHlo.after hostOps1 (Pipeline.withArrays (cfgs 0).spec c (V0 m c) fun w => (dats m 0 c).arrAt w (cfgs 0).N)
    (Proc.devRef .tc main_v10) = _
  unfold hostOps1
  after_results
  show shapeCast S1x128x14336 (Pipeline.withArrays (cfgs 0).spec c (V0 m c) (fun w => (dats m 0 c).arrAt w (cfgs 0).N)
    (Proc.devRef .tc (Pipeline.arrRef (cfgs 0).spec 6)) : Vec Ideal S128x14336 .i8) shapeCasts_S128x14336_S1x128x14336 = _
  rw [Pipeline.withArrays_arr (cfgs 0).spec (by decide) c _ _ 6]
  exact congrArg (fun z => shapeCast S1x128x14336 z shapeCasts_S128x14336_S1x128x14336) (final m c (zp_byte m c))

/-- Every run of the kernel ends with the result being the region's result array, reshaped (`result_eq` reads it at a row
    and a column), and with the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v10) = shapeCast S1x128x14336 (result m c) shapeCasts_S128x14336_S1x128x14336
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ⟨?_, h.2.1 c⟩) (θ_run_and (run_main m ρ) (frame m ρ))
  exact ((h.1 c).2 main_v10 (Pipeline.mem_restRefs_of main_v10 (by decide) (by decide))).trans (tail m c)

end Cert.KernelIdeal.Array
-- ==== Proof.Reference.lean ====
/- The reference's byte at a row and a column, from its arguments: the accumulator is the sum of products of the row of `x`
   less the sum of products of the zero point, plus the bias, and the requantisation reads it (`rOut`, Proof/Requant.lean). -/
module

public import proofs.«01_k».proof.Proof.Gen.ReferenceIdeal.Run
public import proofs.«01_k».proof.Proof.Requant
public import Idealize.ShloMosaic.PureOps.Reduce
public import Idealize.ShloMosaic.Lib.Pointwise
public import Idealize.ShloMosaic.Lib.ValueIdx

@[expose] public section

set_option maxRecDepth 16384

noncomputable section

namespace Cert.ReferenceIdeal.Bytes

open Cert.ReferenceIdeal Cert.ReferenceIdeal.Gen Cert.ReferenceIdeal.Value Cert.Words
open Idealize.ShloMosaic Idealize.ShloMosaic.TcCoe Idealize.ShloMosaic.StableHlo

variable (V0 : Valuation τ sig (Elt Ideal))

/-! ## The arguments -/

/-- The input. -/
abbrev aX : Vec Ideal S1x128x4096 .i8 := V0 (Proc.devRef .tc main_arg0)
/-- The input's zero point. -/
abbrev aXz : Vec Ideal S_ .i32 := V0 (Proc.devRef .tc main_arg1)
/-- The weights. -/
abbrev aW : Vec Ideal S4096x14336 .i8 := V0 (Proc.devRef .tc main_arg2)
/-- The bias. -/
abbrev aB : Vec Ideal S14336 .i32 := V0 (Proc.devRef .tc main_arg3)
/-- The multipliers. -/
abbrev aM : Vec Ideal S14336 .i32 := V0 (Proc.devRef .tc main_arg4)
/-- The shifts. -/
abbrev aS : Vec Ideal S14336 .i32 := V0 (Proc.devRef .tc main_arg5)
/-- The output's zero point. -/
abbrev aYz : Vec Ideal S_ .i32 := V0 (Proc.devRef .tc main_arg6)

/-! ## Per-column arguments, broadcast down the rows -/

/-- A vector over the columns, broadcast to the rows, reads its column. -/
theorem column_at (x : Vec Ideal S14336 .i32) (r : Fin 128) (j : Fin 14336) :
    (broadcastInDim S128x14336 ![0, 1] bcast_S1x14336_S128x14336_0_1 (broadcastInDim S1x14336 ![1] bcast_S14336_S1x14336_1 x)
      : Vec Ideal S128x14336 .i32) (ix2 r j) = x (ix1 j) := by
  pointwise

/-- The broadcast multipliers read their column. -/
theorem v25_at (r : Fin 128) (j : Fin 14336) : (res_main_v25 V0 : Vec Ideal S128x14336 .i32) (ix2 r j) = aM V0 (ix1 j) :=
  column_at (aM V0) r j

/-- The broadcast shifts read their column. -/
theorem v62_at (r : Fin 128) (j : Fin 14336) : (res_main_v62 V0 : Vec Ideal S128x14336 .i32) (ix2 r j) = aS V0 (ix1 j) :=
  column_at (aS V0) r j

/-! ## The requantisation -/

/-- A whole array of one word. -/
abbrev all (w : BitVec 32) : IVec S128x14336 32 := broadcastInDim S128x14336 ![] bcast_S_S128x14336 (constantI S_ 32 w)

/-- An array of one word reads that word. -/
theorem all_at (w : BitVec 32) (i : S128x14336.Idx) : all w i = w := rfl

section Arrays
variable (A B M : IVec S128x14336 32)

/-- The magnitude product's low words, before the nudge. -/
def lowA : IVec S128x14336 32 :=
  addi (muli (andi M (all 65535#32)) (andi B (all 65535#32)))
    (Host.shli (addi (muli (Host.shrui M (all 16#32)) (andi B (all 65535#32)))
      (muli (andi M (all 65535#32)) (Host.shrui B (all 16#32)))) (all 16#32))

/-- `lowA` is `rLow` at each index. -/
theorem lowA_at (i : S128x14336.Idx) : lowA B M i = rLow (M i) (B i) := rfl

/-- The magnitude product's high words, before the nudge. -/
def highA : IVec S128x14336 32 :=
  addi (addi (muli (Host.shrui M (all 16#32)) (Host.shrui B (all 16#32)))
      (Host.shrui (addi (muli (Host.shrui M (all 16#32)) (andi B (all 65535#32)))
        (muli (andi M (all 65535#32)) (Host.shrui B (all 16#32)))) (all 16#32)))
    (extui 32 (cmpi .ult (lowA B M) (muli (andi M (all 65535#32)) (andi B (all 65535#32)))) natLt_1_32)

/-- `highA` is `rHigh` at each index. -/
theorem highA_at (i : S128x14336.Idx) : highA B M i = rHigh (M i) (B i) := rfl

/-- The nudged low words. -/
def nudgedA : IVec S128x14336 32 :=
  addi (lowA B M) (select (cmpi .slt A (all 0#32)) (all 1073741823#32) (all 1073741824#32))

/-- `nudgedA` is the nudged low word at each index. -/
theorem nudgedA_at (i : S128x14336.Idx) : nudgedA A B M i = IntOp.addi (rLow (M i) (B i)) (rNudge (A i)) := rfl

/-- The magnitudes of the rounding doubling high multiply. -/
def magA : IVec S128x14336 32 :=
  ori (Host.shli (addi (highA B M) (extui 32 (cmpi .ult (nudgedA A B M) (lowA B M)) natLt_1_32)) (all 1#32))
    (Host.shrui (nudgedA A B M) (all 31#32))

/-- `magA` of the accumulators' magnitudes is `rMag` at each index. -/
theorem magA_at (i : S128x14336.Idx) : magA A B (absi A) i = rMag (A i) (B i) := by
  have h : magA A B (absi A) i = IntOp.ori
      (IntOp.shli .host (IntOp.addi (highA B (absi A) i)
        ((IntOp.cmpi .ult (nudgedA A B (absi A) i) (lowA B (absi A) i)).setWidth 32)) 1#32)
      (IntOp.shrui .host (nudgedA A B (absi A) i) 31#32) := rfl
  rw [h, highA_at, nudgedA_at, lowA_at]
  rfl

end Arrays

/-- The rounding doubling high multiply, at an index. -/
theorem v60_at (i : S128x14336.Idx) : (res_main_v60 V0 : Vec Ideal S128x14336 .i32) i
    = rSrdhm ((res_main_v18 V0 : Vec Ideal S128x14336 .i32) i) ((res_main_v25 V0 : Vec Ideal S128x14336 .i32) i) := by
  have h : (res_main_v60 V0 : IVec S128x14336 32) = select (cmpi .slt (res_main_v18 V0) (all 0#32))
      (negi (magA (res_main_v18 V0) (res_main_v25 V0) (absi (res_main_v18 V0))))
      (magA (res_main_v18 V0) (res_main_v25 V0) (absi (res_main_v18 V0))) := by
    unfold res_main_v60 res_main_v58 res_main_v49 res_main_v41 res_main_v37 res_main_v34 res_main_v33 res_main_v31
      res_main_v29 res_main_v27 res_main_v24 res_main_v22 magA nudgedA highA lowA all
    simp only [id_eq]
  rw [h]
  generalize (res_main_v18 V0 : IVec S128x14336 32) = A
  generalize (res_main_v25 V0 : IVec S128x14336 32) = B
  unfold rSrdhm
  rw [← magA_at]
  generalize magA A B (absi A) = M
  rfl

/-- The remainder masks of the rounding division. -/
def maskA (E : IVec S128x14336 32) : IVec S128x14336 32 := subi (Host.shli (all 1#32) E) (all 1#32)

/-- The rounding division, the zero point, the clamp and the last narrowing. -/
def outA (y : IVec S_ 32) (H E : IVec S128x14336 32) : IVec S128x14336 8 :=
  trunci 8 (minsi (all 127#32) (maxsi (all 4294967168#32)
    (addi (addi (Host.shrsi H E) (extui 32 (cmpi .sgt (andi H (maskA E))
      (addi (Host.shrsi (maskA E) (all 1#32)) (extui 32 (cmpi .slt H (all 0#32)) natLt_1_32))) natLt_1_32))
      (broadcastInDim S128x14336 ![] bcast_S_S128x14336 y)))) natLt_8_32

/-- `outA` is the rounding division, the zero point's addition, the clamp and the narrowing at each index. -/
theorem outA_at (y : IVec S_ 32) (H E : IVec S128x14336 32) (i : S128x14336.Idx) :
    outA y H E i = (IntOp.minsi 127#32 (IntOp.maxsi 4294967168#32 (IntOp.addi (rDiv (H i) (E i)) (y ix0)))).setWidth 8 := by
  rw [show y ix0 = (broadcastInDim S128x14336 ![] bcast_S_S128x14336 y : IVec S128x14336 32) i from by pointwise]
  unfold outA
  generalize (broadcastInDim S128x14336 ![] bcast_S_S128x14336 y : IVec S128x14336 32) = Y
  rfl

/-- The reference's result before its last reshape. -/
abbrev out : Vec Ideal S128x14336 .i8 :=
  trunci 8 (minsi (broadcastInDim S128x14336 ![] bcast_S_S128x14336 (id (constantI S_ 32 127#32))) (maxsi (broadcastInDim S128x14336 ![] bcast_S_S128x14336 (id (constantI S_ 32 4294967168#32))) (addi (addi (Host.shrsi (res_main_v60 V0) (res_main_v62 V0)) (extui 32 (cmpi .sgt (andi (res_main_v60 V0) (res_main_v66 V0)) (addi (Host.shrsi (res_main_v66 V0) (broadcastInDim S128x14336 ![] bcast_S_S128x14336 (constantI S_ 32 1#32))) (extui 32 (cmpi .slt (res_main_v60 V0) (broadcastInDim S128x14336 ![] bcast_S_S128x14336 (constantI S_ 32 0#32))) natLt_1_32))) natLt_1_32)) (broadcastInDim S128x14336 ![] bcast_S_S128x14336 (V0 (Proc.devRef .tc main_arg6)))))) natLt_8_32

/-- The reference's byte, at an index, from the accumulator there. -/
theorem out_at (i : S128x14336.Idx) : out V0 i
    = rOut (aYz V0 ix0) ((res_main_v18 V0 : Vec Ideal S128x14336 .i32) i) ((res_main_v25 V0 : Vec Ideal S128x14336 .i32) i)
        ((res_main_v62 V0 : Vec Ideal S128x14336 .i32) i) := by
  have h : out V0 = outA (aYz V0) (res_main_v60 V0) (res_main_v62 V0) := by
    unfold out outA maskA res_main_v66 all
    simp only [id_eq]
  rw [h, outA_at, v60_at]
  rfl

/-! ## The accumulator -/

/-- Adding words up from zero is the word of the whole sum. -/
theorem fold_word {n : ℕ} (f : Fin n → ℤ) (S : Finset (Fin n)) :
    S.fold IntOp.addi 0#32 (fun k => W (f k)) = W (∑ k ∈ S, f k) := by
  induction S using Finset.cons_induction with
  | empty => rfl
  | cons a S ha ih => rw [Finset.fold_cons, Finset.sum_cons, ih, addi_W]

/-- A product of two bytes taken as words is the word of the product. -/
theorem mul_bytes (a b : BitVec 8) : IntOp.muli (a.signExtend 32) (b.signExtend 32) = W (a.toInt * b.toInt) := by
  rw [← W_toInt (a.signExtend 32), ← W_toInt (b.signExtend 32), muli_W, BitVec.toInt_signExtend_of_le (by decide),
    BitVec.toInt_signExtend_of_le (by decide)]

/-- The rows of `x` with the row of its zero point below. -/
abbrev rows : Vec Ideal S129x4096 .i8 := concatenate S129x4096 0 [⟨S128x4096, shapeCast S128x4096 (aX V0) shapeCasts_S1x128x4096_S128x4096⟩, ⟨S1x4096, trunci 8 (broadcastInDim S1x4096 ![] bcast_S_S1x4096 (aXz V0)) natLt_8_32⟩] concatenates_S128x4096_S1x4096_S129x4096_d0

/-- A product of a matrix of bytes with another: at a row and a column, the word of the sum of the products over the 4096
    positions. -/
theorem products_at (x : IVec S129x4096 8) (w : IVec S4096x14336 8) (r : Fin 129) (j : Fin 14336) :
    Host.reduce (α := BitVec 32) IntOp.addi
      (muli (broadcastInDim S129x4096x14336 ![0, 1, 2] bcast_S129x4096x1_S129x4096x14336_0_1_2
          (broadcastInDim S129x4096x1 ![0, 1] bcast_S129x4096_S129x4096x1_0_1 (extsi 32 x natLt_8_32)))
        (broadcastInDim S129x4096x14336 ![0, 1, 2] bcast_S1x4096x14336_S129x4096x14336_0_1_2
          (broadcastInDim S1x4096x14336 ![1, 2] bcast_S4096x14336_S1x4096x14336_1_2 (extsi 32 w natLt_8_32))))
      (constantI S_ 32 0#32) reducesTo_S129x4096x14336_S129x14336_d1 h_S_ (ix2 r j)
    = W (∑ k : Fin 4096, BitVec.toInt (x (ix2 r k)) * BitVec.toInt (w (ix2 k j))) := by
  rw [Host.reduce_eq_fold_single _ _ _ _ (by decide), ← fold_word]
  refine Finset.fold_congr fun k _ => ?_
  rw [← mul_bytes]
  show IntOp.muli _ _ = _
  congr 1
  · rw [broadcastInDim_apply _ _ _ _ (ix3 r k 0 : S129x4096x1.Idx) (by intro a; fin_cases a <;> rfl),
      broadcastInDim_apply _ _ _ _ (ix2 r k : S129x4096.Idx) (by intro a; fin_cases a <;> rfl)]
    rfl
  · rw [broadcastInDim_apply _ _ _ _ (ix3 0 k j : S1x4096x14336.Idx) (by intro a; fin_cases a <;> rfl),
      broadcastInDim_apply _ _ _ _ (ix2 k j : S4096x14336.Idx) (by intro a; fin_cases a <;> rfl)]
    rfl

/-- The products of the stacked rows with the weights. -/
theorem v11_at (r : Fin 129) (j : Fin 14336) : (res_main_v11 V0 : Vec Ideal S129x14336 .i32) (ix2 r j)
    = W (∑ k : Fin 4096, BitVec.toInt (rows V0 (ix2 r k)) * BitVec.toInt (aW V0 (ix2 k j))) :=
  products_at (rows V0) (aW V0) r j

/-- A row of `x` in the stacked rows. -/
theorem rows_x (r : Fin 128) (k : Fin 4096) : rows V0 (ix2 (⟨r.val, by omega⟩ : Fin 129) k) = aX V0 (ix3 0 r k) := by
  unfold rows
  rw [concatenate_pair_apply_left (s₁ := S128x4096) (s₂ := S1x4096) (t := S129x4096) 0 _ _ _ _ rfl (ix2 r k)
    (by intro b; fin_cases b <;> rfl)]
  pointwise

/-- The last of the stacked rows: the zero point's low byte. -/
theorem rows_zp (k : Fin 4096) : rows V0 (ix2 (128 : Fin 129) k) = BitVec.setWidth 8 (aXz V0 ix0) := by
  unfold rows
  rw [concatenate_pair_apply_right (s₁ := S128x4096) (s₂ := S1x4096) (t := S129x4096) 0 _ _ _ _ rfl rfl (ix2 0 k)
    (by intro b hb; fin_cases b <;> first | rfl | exact absurd rfl hb) rfl]
  pointwise

/-- The accumulator: the products of the row of `x`, less those of the zero point, plus the bias. -/
theorem v18_at (r : Fin 128) (j : Fin 14336) : (res_main_v18 V0 : Vec Ideal S128x14336 .i32) (ix2 r j)
    = IntOp.addi (W ((∑ k : Fin 4096, BitVec.toInt (aX V0 (ix3 0 r k)) * BitVec.toInt (aW V0 (ix2 k j)))
        - ∑ k : Fin 4096, BitVec.toInt (BitVec.setWidth 8 (aXz V0 ix0)) * BitVec.toInt (aW V0 (ix2 k j)))) (aB V0 (ix1 j)) := by
  have hx := v11_at V0 (⟨r.val, by omega⟩ : Fin 129) j
  have hz := v11_at V0 (128 : Fin 129) j
  rw [Finset.sum_congr rfl fun k _ => congrArg (fun b => BitVec.toInt b * BitVec.toInt (aW V0 (ix2 k j))) (rows_x V0 r k)] at hx
  rw [Finset.sum_congr rfl fun k _ => congrArg (fun b => BitVec.toInt b * BitVec.toInt (aW V0 (ix2 k j))) (rows_zp V0 k)] at hz
  rw [← subi_W, ← hx, ← hz]
  unfold res_main_v18
  generalize (res_main_v11 V0 : IVec S129x14336 32) = P
  show IntOp.addi (IntOp.subi _ _) _ = _
  refine congrArg₂ IntOp.addi (congrArg₂ IntOp.subi ?_ ?_) (column_at (aB V0) r j)
  · exact extractStridedSlice_apply _ _ _ _ _ (by intro a; fin_cases a <;> simp)
  · rw [broadcastInDim_apply _ _ _ _ (ix2 0 j : S1x14336.Idx) (by intro a; fin_cases a <;> rfl)]
    exact extractStridedSlice_apply _ _ _ _ _ (by intro a; fin_cases a <;> simp)

/-- The reference's byte at a row and a column. -/
theorem byte_at (r : Fin 128) (j : Fin 14336) : out V0 (ix2 r j)
    = rOut (aYz V0 ix0)
        (IntOp.addi (W ((∑ k : Fin 4096, BitVec.toInt (aX V0 (ix3 0 r k)) * BitVec.toInt (aW V0 (ix2 k j)))
          - ∑ k : Fin 4096, BitVec.toInt (BitVec.setWidth 8 (aXz V0 ix0)) * BitVec.toInt (aW V0 (ix2 k j)))) (aB V0 (ix1 j)))
        (aM V0 (ix1 j)) (aS V0 (ix1 j)) := by
  rw [out_at, v18_at, v25_at, v62_at]

end Cert.ReferenceIdeal.Bytes
-- ==== Proof.Equation.lean ====
/- The kernel's result and the reference's are one array: at a row and a column both are requantisations of one accumulator,
   which the precondition keeps small enough for the two requantisations to agree. -/
module

public import proofs.«01_k».proof.Defs
public import proofs.«01_k».proof.Proof.KernelRun
public import proofs.«01_k».proof.Proof.Reference
public import proofs.«01_k».proof.Proof.Gen.Pre_fits
public import Idealize.ShloMosaic.Lib.Affine

@[expose] public section

set_option maxRecDepth 16384

noncomputable section

namespace Cert.Equation

open Cert.Words Idealize.ShloMosaic Idealize.ShloMosaic.TcCoe
open Cert.KernelIdeal.Array (outByte result result_eq)
open Cert.KernelIdeal.Block (byteAt abs_le_byte)

/-! ## One byte -/

/-- A sum of 4096 products of a centred byte with a byte is small. -/
theorem sum_small (x w : Fin 4096 → BitVec 8) (z : BitVec 8) :
    |∑ k, ((x k).toInt - z.toInt) * (w k).toInt| ≤ 133693440 := by
  refine (Finset.abs_sum_le_sum_abs _ _).trans ((Finset.sum_le_card_nsmul _ _ (255 * 128) fun k _ => ?_).trans (by simp))
  rw [abs_mul]
  have hx := (x k).le_toInt
  have hx' := (x k).toInt_lt
  have hz := z.le_toInt
  have hz' := z.toInt_lt
  norm_num at hx hx' hz hz'
  exact mul_le_mul (abs_le.2 (by omega)) (abs_le_byte _) (abs_nonneg _) (by norm_num)

/-- The products of the centred row are the products of the row less those of the zero point. -/
theorem sum_centred (x w : Fin 4096 → BitVec 8) (z : BitVec 8) :
    ∑ k, ((x k).toInt - z.toInt) * (w k).toInt = (∑ k, (x k).toInt * (w k).toInt) - ∑ k, z.toInt * (w k).toInt := by
  rw [← Finset.sum_sub_distrib]
  exact Finset.sum_congr rfl fun k _ => sub_mul _ _ _

/-- The kernel's byte is the reference's. -/
theorem byte_eq (x w : Fin 4096 → BitVec 8) (z : BitVec 8) (y b m0 sh : BitVec 32)
    (hb : -939524096 ≤ b.toInt ∧ b.toInt ≤ 939524096) (hm : 0 ≤ m0.toInt) (hs : 1 ≤ sh.toInt ∧ sh.toInt ≤ 31)
    (hy : -1073741568 ≤ y.toInt ∧ y.toInt ≤ 1073741568) :
    byteAt y b m0 sh (fun k => (x k).toInt - (z.signExtend 32).toInt) (fun k => (w k).toInt)
      = rOut y (IntOp.addi (W ((∑ k, (x k).toInt * (w k).toInt) - ∑ k, z.toInt * (w k).toInt)) b) m0 sh := by
  unfold byteAt
  rw [BitVec.toInt_signExtend_of_le (by decide), sum_centred]
  have h := abs_le.1 (sum_small x w z)
  rw [sum_centred] at h
  generalize (∑ k, (x k).toInt * (w k).toInt) - ∑ k, z.toInt * (w k).toInt = s at h
  rw [show IntOp.addi (W s) b = IntOp.addi b (W s) from BitVec.add_comm _ _]
  refine kOut_eq_rOut y _ m0 sh ?_ hm hs hy
  rw [← W_toInt b, addi_W, toInt_W (by omega)]
  omega

/-! ## The precondition -/

section
variable (m : (ℓ : Loc Cert.KernelIdeal.nD Cert.KernelIdeal.τ Cert.KernelIdeal.sig) → Buf (Elt Ideal) ℓ)

/-- What the precondition says of a column and of the output's zero point. -/
theorem pre_at (h : Cert.Pre_KernelIdeal_fits (hPre_fits := Cert.Pre_fits.Gen.facts) m) (c : Dev Cert.KernelIdeal.nD) (j : Fin 14336) :
    (-939524096 ≤ BitVec.toInt (Cert.KernelIdeal.Array.aB m c (ix1 j)) ∧ BitVec.toInt (Cert.KernelIdeal.Array.aB m c (ix1 j)) ≤ 939524096)
    ∧ 0 ≤ BitVec.toInt (Cert.KernelIdeal.Array.aM m c (ix1 j))
    ∧ (1 ≤ BitVec.toInt (Cert.KernelIdeal.Array.aS m c (ix1 j)) ∧ BitVec.toInt (Cert.KernelIdeal.Array.aS m c (ix1 j)) ≤ 31)
    ∧ (-1073741568 ≤ BitVec.toInt (Cert.KernelIdeal.Array.aYz m c ix0) ∧ BitVec.toInt (Cert.KernelIdeal.Array.aYz m c ix0) ≤ 1073741568) := by
  obtain ⟨h1, h2, h3, h4, h5, h6, h7⟩ := h c
  have e1 : IntOp.cmpi .sge (Cert.KernelIdeal.Array.aB m c (ix1 j)) 3355443200#32 = 1#1 := congrFun h1 (ix1 j)
  have e2 : IntOp.cmpi .sle (Cert.KernelIdeal.Array.aB m c (ix1 j)) 939524096#32 = 1#1 := congrFun h2 (ix1 j)
  have e3 : IntOp.cmpi .sge (Cert.KernelIdeal.Array.aM m c (ix1 j)) 0#32 = 1#1 := congrFun h3 (ix1 j)
  have e4 : IntOp.cmpi .sge (Cert.KernelIdeal.Array.aS m c (ix1 j)) 1#32 = 1#1 := congrFun h4 (ix1 j)
  have e5 : IntOp.cmpi .sle (Cert.KernelIdeal.Array.aS m c (ix1 j)) 31#32 = 1#1 := congrFun h5 (ix1 j)
  have e6 : IntOp.cmpi .sge (Cert.KernelIdeal.Array.aYz m c ix0) 3221225728#32 = 1#1 := congrFun h6 ix0
  have e7 : IntOp.cmpi .sle (Cert.KernelIdeal.Array.aYz m c ix0) 1073741568#32 = 1#1 := congrFun h7 ix0
  exact ⟨⟨IntOp.cmpi_sge.1 e1, IntOp.cmpi_sle.1 e2⟩, IntOp.cmpi_sge.1 e3, ⟨IntOp.cmpi_sge.1 e4, IntOp.cmpi_sle.1 e5⟩,
    ⟨IntOp.cmpi_sge.1 e6, IntOp.cmpi_sle.1 e7⟩⟩

/-! ## The whole array -/

open Cert.ReferenceIdeal.Bytes (out byte_at) in
/-- From arguments that agree and meet the precondition, the kernel's result array is the reference's. -/
theorem arrays_eq (h : Cert.Pre_KernelIdeal_fits (hPre_fits := Cert.Pre_fits.Gen.facts) m) (c : Dev Cert.KernelIdeal.nD)
    (V0 : Valuation Cert.ReferenceIdeal.τ Cert.ReferenceIdeal.sig (Elt Ideal))
    (h0 : Cert.ReferenceIdeal.Bytes.aX V0 = Cert.KernelIdeal.Array.aX m c)
    (h1 : Cert.ReferenceIdeal.Bytes.aXz V0 = Cert.KernelIdeal.Array.aXz m c)
    (h2 : Cert.ReferenceIdeal.Bytes.aW V0 = Cert.KernelIdeal.Array.aW m c)
    (h3 : Cert.ReferenceIdeal.Bytes.aB V0 = Cert.KernelIdeal.Array.aB m c)
    (h4 : Cert.ReferenceIdeal.Bytes.aM V0 = Cert.KernelIdeal.Array.aM m c)
    (h5 : Cert.ReferenceIdeal.Bytes.aS V0 = Cert.KernelIdeal.Array.aS m c)
    (h6 : Cert.ReferenceIdeal.Bytes.aYz V0 = Cert.KernelIdeal.Array.aYz m c) : result m c = out V0 := by
  funext i
  obtain ⟨r, j, rfl⟩ : ∃ (r : Fin 128) (j : Fin 14336), i = ix2 r j := ⟨i 0, i 1, (ix2_eta i).symm⟩
  obtain ⟨hb, hm, hs, hy⟩ := pre_at m h c j
  rw [result_eq, byte_at, h0, h1, h2, h3, h4, h5, h6]
  exact byte_eq (fun k => Cert.KernelIdeal.Array.aX m c (ix3 0 r k)) (fun k => Cert.KernelIdeal.Array.aW m c (ix2 k j))
    (BitVec.setWidth 8 (Cert.KernelIdeal.Array.aXz m c ix0)) _ _ _ _ hb hm hs hy

end

end Cert.Equation
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_fits
public import Idealize.ShloMosaic.Adequacy
public import Idealize.ShloMosaic.Init
public import Idealize.ShloMosaic.Lib.Quiescent
public import proofs.«01_k».proof.Proof.Equation

@[expose] public section

noncomputable section

namespace Cert.Proof

open Idealize.ShloMosaic Idealize.SL.Sem

/-- The reference ends with its arguments unchanged and, declaring no semaphore, with every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0) :=
  (θ_run (Cert.ReferenceIdeal.defs (F := Ideal)) _ _).mono
    (fun r h => ⟨fun c => (h c).2, sem_eq_zero_of_no_sems (by decide) r.2⟩)
    (Cert.ReferenceIdeal.Value.run (F := Ideal) m g)

/-- Under the precondition the kernel's result is the reference's. -/
theorem algebraic : Cert.algebraic_KernelIdeal_ReferenceIdeal_pre_fits (hKernelIdeal := Cert.KernelIdeal.Gen.facts)
    (hReferenceIdeal := Cert.ReferenceIdeal.Gen.facts) (hPre_fits := Cert.Pre_fits.Gen.facts) := by
  intro m g m' g' hpre hagree
  refine ⟨fun c => shapeCast Cert.KernelIdeal.S1x128x14336 (Cert.KernelIdeal.Array.result m c)
    Cert.KernelIdeal.Gen.facts.shapeCasts_S128x14336_S1x128x14336, Cert.KernelIdeal.Array.run m g, ?_⟩
  refine (θ_run (Cert.ReferenceIdeal.defs (F := Ideal)) _ _).mono (fun r h c => ⟨(h c).1.trans ?_, (h c).2⟩)
    (Cert.ReferenceIdeal.Value.run (F := Ideal) m' g')
  obtain ⟨h0, h1, h2, h3, h4, h5, h6⟩ := hagree c
  exact congrArg (fun x => shapeCast Cert.KernelIdeal.S1x128x14336 x Cert.KernelIdeal.Gen.facts.shapeCasts_S128x14336_S1x128x14336)
    (Cert.Equation.arrays_eq m hpre c (StableHlo.launchContents m' c) h0 h1 h2 h3 h4 h5 h6).symm

/-- Everything the certificate claims. -/
theorem claim : Cert.Claim :=
  ⟨Cert.Kernel.Gen.facts, Cert.KernelIdeal.Gen.facts, Cert.ReferenceIdeal.Gen.facts, Cert.Pre_fits.Gen.facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    trivial,
    algebraic⟩

end Cert.Proof

end
